-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_binary_mask [hPre_binary_mask : Cert.Pre_binary_mask.Facts] (m : (ℓ : Loc Cert.KernelIdeal.nD Cert.KernelIdeal.τ Cert.KernelIdeal.sig) → Buf (Elt Ideal) ℓ) : Prop :=
  ∀ c : Dev Cert.KernelIdeal.nD,
    (Cert.Pre_binary_mask.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_binary_mask [hPre_binary_mask : Cert.Pre_binary_mask.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_binary_mask.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_binary_mask [hKernelIdeal : Cert.KernelIdeal.Facts] [hPre_binary_mask : Cert.Pre_binary_mask.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_binary_mask m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_binary_mask [hReferenceIdeal : Cert.ReferenceIdeal.Facts] [hPre_binary_mask : Cert.Pre_binary_mask.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_binary_mask m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_binary_mask [hKernelIdeal : Cert.KernelIdeal.Facts] [hReferenceIdeal : Cert.ReferenceIdeal.Facts] [hPre_binary_mask : Cert.Pre_binary_mask.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_binary_mask m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_binary_mask : Cert.Pre_binary_mask.Facts),
    quiescent_Kernel (hKernel := hKernel)
    ∧ quiescent_KernelIdeal (hKernelIdeal := hKernelIdeal)
    ∧ quiescent_KernelIdeal_pre_binary_mask (hKernelIdeal := hKernelIdeal) (hPre_binary_mask := hPre_binary_mask)
    ∧ quiescent_ReferenceIdeal (hReferenceIdeal := hReferenceIdeal)
    ∧ quiescent_ReferenceIdeal_pre_binary_mask (hReferenceIdeal := hReferenceIdeal) (hPre_binary_mask := hPre_binary_mask)
    ∧ preserves_Kernel_KernelIdeal
    ∧ algebraic_KernelIdeal_ReferenceIdeal_pre_binary_mask (hKernelIdeal := hKernelIdeal) (hReferenceIdeal := hReferenceIdeal) (hPre_binary_mask := hPre_binary_mask)
-- ==== Pre_binary_mask.lean ====
abbrev S256x256 : Shape := ⟨2, ![256, 256]⟩
abbrev S256x240x432 : Shape := ⟨3, ![256, 240, 432]⟩
abbrev S2x24x256 : Shape := ⟨3, ![2, 24, 256]⟩
abbrev S24x240x432 : Shape := ⟨3, ![24, 240, 432]⟩
abbrev S256 : Shape := ⟨1, ![256]⟩
abbrev S_ : Shape := ⟨0, ![]⟩

class Facts : Prop where
  bcast_S_S256x240x432 : S_.BroadcastsInDim S256x240x432 (![] : Fin 0 → Fin S256x240x432.rank)
  reducesTo_S256x240x432_S_d0_1_2 : S256x240x432.ReducesTo [0, 1, 2] S_
  h_S_ : 0 < S_.numel

variable [Facts]

def fn {F : FTy → Type} [FloatOps F] (main_arg0 : FVec F S256x256 .f32) (main_arg1 : FVec F S256x240x432 .f32) (main_arg2 : FVec F S2x24x256 .f32) (main_arg3 : FVec F S24x240x432 .f32) (main_arg4 : FVec F S256 .f32) : IVec S_ 1 :=
  let main_cst : FVec F S_ .f32 := constant S_ .f32 0x00000000#32
  let main_v0 : FVec F S256x240x432 .f32 := broadcastInDim S256x240x432 ![] bcast_S_S256x240x432 main_cst
  let main_v1 : IVec S256x240x432 1 := cmpf .oeq main_arg1 main_v0
  let main_cst_0 : FVec F S_ .f32 := constant S_ .f32 0x3F800000#32
  let main_v2 : FVec F S256x240x432 .f32 := broadcastInDim S256x240x432 ![] bcast_S_S256x240x432 main_cst_0
  let main_v3 : IVec S256x240x432 1 := cmpf .oeq main_arg1 main_v2
  let main_v4 : IVec S256x240x432 1 := ori main_v1 main_v3
  let main_c : IVec S_ 1 := constantI S_ 1 1#1
  let main_v5 : IVec S_ 1 := (fun x v => Host.reduce IntOp.andi x v reducesTo_S256x240x432_S_d0_1_2 h_S_) main_v4 main_c
  main_v5
-- ==== Kernel.lean ====
abbrev S256x256 : Shape := ⟨2, ![256, 256]⟩
abbrev S256x240x432 : Shape := ⟨3, ![256, 240, 432]⟩
abbrev S2x24x256 : Shape := ⟨3, ![2, 24, 256]⟩
abbrev S24x240x432 : Shape := ⟨3, ![24, 240, 432]⟩
abbrev S256 : Shape := ⟨1, ![256]⟩
abbrev S256x103680 : Shape := ⟨2, ![256, 103680]⟩
abbrev S1x256 : Shape := ⟨2, ![1, 256]⟩
abbrev S24x1 : Shape := ⟨2, ![24, 1]⟩
abbrev S24x48x432 : Shape := ⟨3, ![24, 48, 432]⟩
abbrev S256x20736 : Shape := ⟨2, ![256, 20736]⟩
abbrev S5x256x20736 : Shape := ⟨3, ![5, 256, 20736]⟩
abbrev S32x256 : Shape := ⟨2, ![32, 256]⟩
abbrev S24x256 : Shape := ⟨2, ![24, 256]⟩
abbrev S24x20736 : Shape := ⟨2, ![24, 20736]⟩
abbrev S8x20736 : Shape := ⟨2, ![8, 20736]⟩
abbrev S32x20736 : Shape := ⟨2, ![32, 20736]⟩
abbrev S24 : Shape := ⟨1, ![24]⟩
abbrev S128x20736 : Shape := ⟨2, ![128, 20736]⟩
abbrev S1x128x20736 : Shape := ⟨3, ![1, 128, 20736]⟩
abbrev S256x1 : Shape := ⟨2, ![256, 1]⟩
abbrev S2x24 : Shape := ⟨2, ![2, 24]⟩
abbrev S2x24x1 : Shape := ⟨3, ![2, 24, 1]⟩
abbrev S48x256 : Shape := ⟨2, ![48, 256]⟩
abbrev S1x256x20736 : Shape := ⟨3, ![1, 256, 20736]⟩
abbrev S48x20736 : Shape := ⟨2, ![48, 20736]⟩

abbrev nBuf : Space → Nat
  | .hbm => 15
  | .vmem => 15
  | .smem => 0
  | _ => 0

abbrev bufTy : (tb : Table) → Fin (tcTables nBuf tb) → BufTy
  | .hbm, ⟨0, _⟩ => ⟨S256x256, .f32⟩
  | .hbm, ⟨1, _⟩ => ⟨S256x240x432, .f32⟩
  | .hbm, ⟨2, _⟩ => ⟨S2x24x256, .f32⟩
  | .hbm, ⟨3, _⟩ => ⟨S24x240x432, .f32⟩
  | .hbm, ⟨4, _⟩ => ⟨S256, .f32⟩
  | .hbm, ⟨5, _⟩ => ⟨S256x103680, .f32⟩
  | .hbm, ⟨6, _⟩ => ⟨S256x103680, .i32⟩
  | .hbm, ⟨7, _⟩ => ⟨S256x103680, .i8⟩
  | .hbm, ⟨8, _⟩ => ⟨S256x103680, .i8⟩
  | .hbm, ⟨9, _⟩ => ⟨S1x256, .f32⟩
  | .hbm, ⟨10, _⟩ => ⟨S24x240x432, .f32⟩
  | .hbm, ⟨11, _⟩ => ⟨S24x1, .f32⟩
  | .hbm, ⟨12, _⟩ => ⟨S24x1, .f32⟩
  | .hbm, ⟨13, _⟩ => ⟨S24, .f32⟩
  | .hbm, ⟨14, _⟩ => ⟨S24, .f32⟩
  | .local _ .vmem, ⟨0, _⟩ => ⟨S24x48x432, .f32⟩
  | .local _ .vmem, ⟨1, _⟩ => ⟨S24x48x432, .f32⟩
  | .local _ .vmem, ⟨2, _⟩ => ⟨S256x20736, .i8⟩
  | .local _ .vmem, ⟨3, _⟩ => ⟨S256x20736, .i8⟩
  | .local _ .vmem, ⟨4, _⟩ => ⟨S256x256, .f32⟩
  | .local _ .vmem, ⟨5, _⟩ => ⟨S2x24x256, .f32⟩
  | .local _ .vmem, ⟨6, _⟩ => ⟨S1x256, .f32⟩
  | .local _ .vmem, ⟨7, _⟩ => ⟨S24x48x432, .f32⟩
  | .local _ .vmem, ⟨8, _⟩ => ⟨S24x48x432, .f32⟩
  | .local _ .vmem, ⟨9, _⟩ => ⟨S24x1, .f32⟩
  | .local _ .vmem, ⟨10, _⟩ => ⟨S24x1, .f32⟩
  | .local _ .vmem, ⟨11, _⟩ => ⟨S5x256x20736, .i8⟩
  | .local _ .vmem, ⟨12, _⟩ => ⟨S32x256, .f32⟩
  | .local _ .vmem, ⟨13, _⟩ => ⟨S24x1, .f32⟩
  | .local _ .vmem, ⟨14, _⟩ => ⟨S24x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨2, ![2, 5], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 3 → Nat :=
  let arg1 : BitVec 32 := BitVec.ofNat 32 (i 1).val
  let v38 : Index := Scalar.indexCast arg1
  let c0_22 : Index := 0#32
  let c0_23 : Index := 0#32
  ![v38.toNat, 0, 0]
def k0_off2 (i : grid0.Coords) : Fin 3 → Nat :=
  let arg1 : BitVec 32 := BitVec.ofNat 32 (i 1).val
  let v43 : Index := Scalar.indexCast arg1
  let c128 : Index := 128#32
  let c0_24 : Index := 0#32
  ![v43.toNat, 128, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let arg1 : BitVec 32 := BitVec.ofNat 32 (i 1).val
  let c0_i32_4 : BitVec 32 := 0#32
  let v9 : BitVec 1 := Scalar.cmpi .eq arg1 c0_i32_4
  let v10 : BitVec 1 := Scalar.andi v8 v9
  let v11 : BitVec 32 := Scalar.extui v10
  let c0_i32_5 : BitVec 32 := 0#32
  let v12 : BitVec 1 := Scalar.cmpi .ne v11 c0_i32_5
  v12

@[reducible] def k0_t1_loop : Scf.Loop 32 :=
  let c0_i32_29 : BitVec 32 := 0#32
  let c20_i32 : BitVec 32 := 20#32
  let v57 : BitVec 32 := Scalar.addi c0_i32_29 c20_i32
  let c1_i32_30 : BitVec 32 := 1#32
  ⟨c0_i32_29, v57, c1_i32_30⟩
@[reducible] def k0_t2_loop : Scf.Loop 32 :=
  let c0_i32_46 : BitVec 32 := 0#32
  let c5_i32 : BitVec 32 := 5#32
  let v87 : BitVec 32 := Scalar.addi c0_i32_46 c5_i32
  let c1_i32_47 : BitVec 32 := 1#32
  ⟨c0_i32_46, v87, c1_i32_47⟩
def k0_cond4 (i : grid0.Coords) : BitVec 1 :=
  let arg0 : BitVec 32 := BitVec.ofNat 32 (i 0).val
  let c1_i32_6 : BitVec 32 := 1#32
  let v13 : BitVec 1 := Scalar.cmpi .eq arg0 c1_i32_6
  let v14 : BitVec 32 := Scalar.extui v13
  let c0_i32_7 : BitVec 32 := 0#32
  let v15 : BitVec 1 := Scalar.cmpi .ne v14 c0_i32_7
  v15

def k0_off3 (i : grid0.Coords) : Fin 3 → Nat :=
  let arg1 : BitVec 32 := BitVec.ofNat 32 (i 1).val
  let v22 : Index := Scalar.indexCast arg1
  let c0_9 : Index := 0#32
  let c0_10 : Index := 0#32
  ![v22.toNat, 0, 0]
def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S24x48x432 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x20736 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x24x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S24x48x432 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S24x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S24x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceIdeal.lean ====
abbrev S256x256 : Shape := ⟨2, ![256, 256]⟩
abbrev S256x240x432 : Shape := ⟨3, ![256, 240, 432]⟩
abbrev S2x24x256 : Shape := ⟨3, ![2, 24, 256]⟩
abbrev S24x240x432 : Shape := ⟨3, ![24, 240, 432]⟩
abbrev S256 : Shape := ⟨1, ![256]⟩
abbrev S_ : Shape := ⟨0, ![]⟩
abbrev S256x1 : Shape := ⟨2, ![256, 1]⟩
abbrev S2x24 : Shape := ⟨2, ![2, 24]⟩
abbrev S2x24x1 : Shape := ⟨3, ![2, 24, 1]⟩
abbrev S24x256 : Shape := ⟨2, ![24, 256]⟩
abbrev S24x103680 : Shape := ⟨2, ![24, 103680]⟩
abbrev S256x103680 : Shape := ⟨2, ![256, 103680]⟩
abbrev S103680x256 : Shape := ⟨2, ![103680, 256]⟩
abbrev S24 : Shape := ⟨1, ![24]⟩
abbrev S24x1 : Shape := ⟨2, ![24, 1]⟩
abbrev S1x256 : Shape := ⟨2, ![1, 256]⟩
abbrev S20x24x256 : Shape := ⟨3, ![20, 24, 256]⟩
abbrev S1x24x256 : Shape := ⟨3, ![1, 24, 256]⟩

abbrev nBuf : Space → Nat
  | .hbm => 187
  | .vmem => 0
  | .smem => 0
  | _ => 0

abbrev hbmTy0_0 (i : Nat) : BufTy := match i % 128 with
  | 0 => ⟨S256x256, .f32⟩
  | 1 => ⟨S256x240x432, .f32⟩
  | 2 => ⟨S2x24x256, .f32⟩
  | 3 => ⟨S24x240x432, .f32⟩
  | 4 => ⟨S256, .f32⟩
  | 5 => ⟨S256x256, .f32⟩
  | 6 => ⟨S_, .f32⟩
  | 7 => ⟨S256, .f32⟩
  | 8 => ⟨S256x1, .f32⟩
  | 9 => ⟨S256x1, .f32⟩
  | 10 => ⟨S_, .f32⟩
  | 11 => ⟨S256x1, .f32⟩
  | 12 => ⟨S256x1, .f32⟩
  | 13 => ⟨S256x256, .f32⟩
  | 14 => ⟨S256x256, .f32⟩
  | 15 => ⟨S2x24x256, .f32⟩
  | 16 => ⟨S_, .f32⟩
  | 17 => ⟨S2x24, .f32⟩
  | 18 => ⟨S2x24x1, .f32⟩
  | 19 => ⟨S2x24x1, .f32⟩
  | 20 => ⟨S_, .f32⟩
  | 21 => ⟨S2x24x1, .f32⟩
  | 22 => ⟨S2x24x1, .f32⟩
  | 23 => ⟨S2x24x256, .f32⟩
  | 24 => ⟨S2x24x256, .f32⟩
  | 25 => ⟨S_, .f32⟩
  | 26 => ⟨S24x256, .f32⟩
  | 27 => ⟨S24x256, .f32⟩
  | 28 => ⟨S_, .f32⟩
  | 29 => ⟨S24x256, .f32⟩
  | 30 => ⟨S24x256, .f32⟩
  | 31 => ⟨S24x103680, .f32⟩
  | 32 => ⟨S256x103680, .f32⟩
  | 33 => ⟨S103680x256, .f32⟩
  | 34 => ⟨S24x256, .f32⟩
  | 35 => ⟨S_, .f32⟩
  | 36 => ⟨S24, .f32⟩
  | 37 => ⟨S24x1, .f32⟩
  | 38 => ⟨S_, .f32⟩
  | 39 => ⟨S256, .f32⟩
  | 40 => ⟨S1x256, .f32⟩
  | 41 => ⟨S24x256, .f32⟩
  | 42 => ⟨S24x256, .f32⟩
  | 43 => ⟨S24x256, .f32⟩
  | 44 => ⟨S24x256, .f32⟩
  | 45 => ⟨S_, .f32⟩
  | 46 => ⟨S24x256, .f32⟩
  | 47 => ⟨S24x256, .f32⟩
  | 48 => ⟨S24x256, .f32⟩
  | 49 => ⟨S_, .f32⟩
  | 50 => ⟨S24x256, .f32⟩
  | 51 => ⟨S24x256, .f32⟩
  | 52 => ⟨S_, .f32⟩
  | 53 => ⟨S24x256, .f32⟩
  | 54 => ⟨S24x256, .f32⟩
  | 55 => ⟨S24x256, .f32⟩
  | 56 => ⟨S24x256, .f32⟩
  | 57 => ⟨S_, .f32⟩
  | 58 => ⟨S24x256, .f32⟩
  | 59 => ⟨S_, .f32⟩
  | 60 => ⟨S20x24x256, .f32⟩
  | 61 => ⟨S_, .i32⟩
  | 62 => ⟨S24x256, .f32⟩
  | 63 => ⟨S_, .i32⟩
  | 64 => ⟨S24x256, .f32⟩
  | 65 => ⟨S20x24x256, .f32⟩
  | 66 => ⟨S_, .i32⟩
  | 67 => ⟨S_, .i1⟩
  | 68 => ⟨S_, .f32⟩
  | 69 => ⟨S24x256, .f32⟩
  | 70 => ⟨S24x256, .f32⟩
  | 71 => ⟨S24x256, .f32⟩
  | 72 => ⟨S_, .f32⟩
  | 73 => ⟨S_, .f32⟩
  | 74 => ⟨S_, .f32⟩
  | 75 => ⟨S24x256, .f32⟩
  | 76 => ⟨S24x256, .f32⟩
  | 77 => ⟨S_, .f32⟩
  | 78 => ⟨S24x256, .f32⟩
  | 79 => ⟨S24x256, .f32⟩
  | 80 => ⟨S_, .f32⟩
  | 81 => ⟨S24, .f32⟩
  | 82 => ⟨S24x1, .f32⟩
  | 83 => ⟨S_, .f32⟩
  | 84 => ⟨S24x1, .f32⟩
  | 85 => ⟨S24x1, .f32⟩
  | 86 => ⟨S24x256, .f32⟩
  | 87 => ⟨S24x256, .f32⟩
  | 88 => ⟨S_, .f32⟩
  | 89 => ⟨S_, .f32⟩
  | 90 => ⟨S_, .f32⟩
  | 91 => ⟨S24x256, .f32⟩
  | 92 => ⟨S24x256, .f32⟩
  | 93 => ⟨S_, .f32⟩
  | 94 => ⟨S24x256, .f32⟩
  | 95 => ⟨S24x256, .f32⟩
  | 96 => ⟨S_, .f32⟩
  | 97 => ⟨S24, .f32⟩
  | 98 => ⟨S24x1, .f32⟩
  | 99 => ⟨S_, .f32⟩
  | 100 => ⟨S24x1, .f32⟩
  | 101 => ⟨S24x1, .f32⟩
  | 102 => ⟨S24x256, .f32⟩
  | 103 => ⟨S24x256, .f32⟩
  | 104 => ⟨S_, .f32⟩
  | 105 => ⟨S_, .f32⟩
  | 106 => ⟨S_, .f32⟩
  | 107 => ⟨S24x256, .f32⟩
  | 108 => ⟨S24x256, .f32⟩
  | 109 => ⟨S_, .f32⟩
  | 110 => ⟨S24x256, .f32⟩
  | 111 => ⟨S24x256, .f32⟩
  | 112 => ⟨S_, .f32⟩
  | 113 => ⟨S24, .f32⟩
  | 114 => ⟨S24x1, .f32⟩
  | 115 => ⟨S_, .f32⟩
  | 116 => ⟨S24x1, .f32⟩
  | 117 => ⟨S24x1, .f32⟩
  | 118 => ⟨S24x256, .f32⟩
  | 119 => ⟨S24x256, .f32⟩
  | 120 => ⟨S_, .f32⟩
  | 121 => ⟨S_, .f32⟩
  | 122 => ⟨S_, .f32⟩
  | 123 => ⟨S24x256, .f32⟩
  | 124 => ⟨S24x256, .f32⟩
  | 125 => ⟨S_, .f32⟩
  | 126 => ⟨S24x256, .f32⟩
  | 127 => ⟨S24x256, .f32⟩
  | _ => ⟨S256x256, .f32⟩

abbrev hbmTy0_1 (i : Nat) : BufTy := match i % 128 with
  | 0 => ⟨S_, .f32⟩
  | 1 => ⟨S24, .f32⟩
  | 2 => ⟨S24x1, .f32⟩
  | 3 => ⟨S_, .f32⟩
  | 4 => ⟨S24x1, .f32⟩
  | 5 => ⟨S24x1, .f32⟩
  | 6 => ⟨S24x256, .f32⟩
  | 7 => ⟨S24x256, .f32⟩
  | 8 => ⟨S_, .f32⟩
  | 9 => ⟨S_, .f32⟩
  | 10 => ⟨S_, .f32⟩
  | 11 => ⟨S24x256, .f32⟩
  | 12 => ⟨S24x256, .f32⟩
  | 13 => ⟨S_, .f32⟩
  | 14 => ⟨S24x256, .f32⟩
  | 15 => ⟨S24x256, .f32⟩
  | 16 => ⟨S_, .f32⟩
  | 17 => ⟨S24, .f32⟩
  | 18 => ⟨S24x1, .f32⟩
  | 19 => ⟨S_, .f32⟩
  | 20 => ⟨S24x1, .f32⟩
  | 21 => ⟨S24x1, .f32⟩
  | 22 => ⟨S24x256, .f32⟩
  | 23 => ⟨S24x256, .f32⟩
  | 24 => ⟨S1x24x256, .f32⟩
  | 25 => ⟨S_, .i32⟩
  | 26 => ⟨S_, .i32⟩
  | 27 => ⟨S20x24x256, .f32⟩
  | 28 => ⟨S_, .i32⟩
  | 29 => ⟨S_, .i32⟩
  | 30 => ⟨S_, .f32⟩
  | 31 => ⟨S24x256, .f32⟩
  | 32 => ⟨S_, .f32⟩
  | 33 => ⟨S24x256, .f32⟩
  | 34 => ⟨S24x256, .f32⟩
  | 35 => ⟨S_, .f32⟩
  | 36 => ⟨S24x256, .f32⟩
  | 37 => ⟨S24x256, .i1⟩
  | 38 => ⟨S24x256, .f32⟩
  | 39 => ⟨S24x256, .f32⟩
  | 40 => ⟨S24x103680, .f32⟩
  | 41 => ⟨S24x240x432, .f32⟩
  | 42 => ⟨S_, .f32⟩
  | 43 => ⟨S_, .f32⟩
  | 44 => ⟨S_, .f32⟩
  | 45 => ⟨S24x256, .f32⟩
  | 46 => ⟨S24x256, .f32⟩
  | 47 => ⟨S_, .f32⟩
  | 48 => ⟨S24x256, .f32⟩
  | 49 => ⟨S24x256, .f32⟩
  | 50 => ⟨S24x256, .f32⟩
  | 51 => ⟨S24x256, .f32⟩
  | 52 => ⟨S_, .f32⟩
  | 53 => ⟨S24, .f32⟩
  | 54 => ⟨S1x256, .f32⟩
  | 55 => ⟨S24x256, .f32⟩
  | 56 => ⟨S24x256, .f32⟩
  | 57 => ⟨S_, .f32⟩
  | 58 => ⟨S24, .f32⟩
  | _ => ⟨S256x256, .f32⟩

abbrev hbmTy (i : Nat) : BufTy := match i / 128 with
  | 0 => hbmTy0_0 i
  | 1 => hbmTy0_1 i
  | _ => ⟨S256x256, .f32⟩

abbrev bufTy : (tb : Table) → Fin (tcTables nBuf tb) → BufTy
  | .hbm, ⟨i, _⟩ => hbmTy i
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call1_v0 : Ref sig .tc := ⟨.hbm, 15, rfl⟩
abbrev main_call1_cst : Ref sig .tc := ⟨.hbm, 16, rfl⟩
abbrev main_call1_v1 : Ref sig .tc := ⟨.hbm, 17, rfl⟩
abbrev main_call1_v2 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_8 : Ref sig .tc := ⟨.hbm, 57, rfl⟩
abbrev main_v35 : Ref sig .tc := ⟨.hbm, 58, rfl⟩
abbrev main_cst_9 : Ref sig .tc := ⟨.hbm, 59, rfl⟩
abbrev main_v36 : Ref sig .tc := ⟨.hbm, 60, rfl⟩
abbrev main_c : Ref sig .tc := ⟨.hbm, 61, rfl⟩
abbrev main_v37_0 : Ref sig .tc := ⟨.hbm, 62, rfl⟩
abbrev main_v37_1 : Ref sig .tc := ⟨.hbm, 63, rfl⟩
abbrev main_v37_2 : Ref sig .tc := ⟨.hbm, 64, rfl⟩
abbrev main_v37_3 : Ref sig .tc := ⟨.hbm, 65, rfl⟩
abbrev main_while0c_c_20 : Ref sig .tc := ⟨.hbm, 66, rfl⟩
abbrev main_while0c_v55 : Ref sig .tc := ⟨.hbm, 67, rfl⟩
abbrev main_while0b_cst_20 : Ref sig .tc := ⟨.hbm, 68, rfl⟩
abbrev main_while0b_v55 : Ref sig .tc := ⟨.hbm, 69, rfl⟩
abbrev main_while0b_v56 : Ref sig .tc := ⟨.hbm, 70, rfl⟩
abbrev main_while0b_v57 : Ref sig .tc := ⟨.hbm, 71, rfl⟩
abbrev main_while0b_cst_21 : Ref sig .tc := ⟨.hbm, 72, rfl⟩
abbrev main_while0b_cst_22 : Ref sig .tc := ⟨.hbm, 73, rfl⟩
abbrev main_while0b_call2_v0 : Ref sig .tc := ⟨.hbm, 74, rfl⟩
abbrev main_while0b_call2_v1 : Ref sig .tc := ⟨.hbm, 75, rfl⟩
abbrev main_while0b_call2_v2 : Ref sig .tc := ⟨.hbm, 76, rfl⟩
abbrev main_while0b_call2_v3 : Ref sig .tc := ⟨.hbm, 77, rfl⟩
abbrev main_while0b_call2_v4 : Ref sig .tc := ⟨.hbm, 78, rfl⟩
abbrev main_while0b_v58 : Ref sig .tc := ⟨.hbm, 79, rfl⟩
abbrev main_while0b_cst_23 : Ref sig .tc := ⟨.hbm, 80, rfl⟩
abbrev main_while0b_v59 : Ref sig .tc := ⟨.hbm, 81, rfl⟩
abbrev main_while0b_v60 : Ref sig .tc := ⟨.hbm, 82, rfl⟩
abbrev main_while0b_cst_24 : Ref sig .tc := ⟨.hbm, 83, rfl⟩
abbrev main_while0b_v61 : Ref sig .tc := ⟨.hbm, 84, rfl⟩
abbrev main_while0b_v62 : Ref sig .tc := ⟨.hbm, 85, rfl⟩
abbrev main_while0b_v63 : Ref sig .tc := ⟨.hbm, 86, rfl⟩
abbrev main_while0b_v64 : Ref sig .tc := ⟨.hbm, 87, rfl⟩
abbrev main_while0b_cst_25 : Ref sig .tc := ⟨.hbm, 88, rfl⟩
abbrev main_while0b_cst_26 : Ref sig .tc := ⟨.hbm, 89, rfl⟩
abbrev main_while0b_call3_v0 : Ref sig .tc := ⟨.hbm, 90, rfl⟩
abbrev main_while0b_call3_v1 : Ref sig .tc := ⟨.hbm, 91, rfl⟩
abbrev main_while0b_call3_v2 : Ref sig .tc := ⟨.hbm, 92, rfl⟩
abbrev main_while0b_call3_v3 : Ref sig .tc := ⟨.hbm, 93, rfl⟩
abbrev main_while0b_call3_v4 : Ref sig .tc := ⟨.hbm, 94, rfl⟩
abbrev main_while0b_v65 : Ref sig .tc := ⟨.hbm, 95, rfl⟩
abbrev main_while0b_cst_27 : Ref sig .tc := ⟨.hbm, 96, rfl⟩
abbrev main_while0b_v66 : Ref sig .tc := ⟨.hbm, 97, rfl⟩
abbrev main_while0b_v67 : Ref sig .tc := ⟨.hbm, 98, rfl⟩
abbrev main_while0b_cst_28 : Ref sig .tc := ⟨.hbm, 99, rfl⟩
abbrev main_while0b_v68 : Ref sig .tc := ⟨.hbm, 100, rfl⟩
abbrev main_while0b_v69 : Ref sig .tc := ⟨.hbm, 101, rfl⟩
abbrev main_while0b_v70 : Ref sig .tc := ⟨.hbm, 102, rfl⟩
abbrev main_while0b_v71 : Ref sig .tc := ⟨.hbm, 103, rfl⟩
abbrev main_while0b_cst_29 : Ref sig .tc := ⟨.hbm, 104, rfl⟩
abbrev main_while0b_cst_30 : Ref sig .tc := ⟨.hbm, 105, rfl⟩
abbrev main_while0b_call4_v0 : Ref sig .tc := ⟨.hbm, 106, rfl⟩
abbrev main_while0b_call4_v1 : Ref sig .tc := ⟨.hbm, 107, rfl⟩
abbrev main_while0b_call4_v2 : Ref sig .tc := ⟨.hbm, 108, rfl⟩
abbrev main_while0b_call4_v3 : Ref sig .tc := ⟨.hbm, 109, rfl⟩
abbrev main_while0b_call4_v4 : Ref sig .tc := ⟨.hbm, 110, rfl⟩
abbrev main_while0b_v72 : Ref sig .tc := ⟨.hbm, 111, rfl⟩
abbrev main_while0b_cst_31 : Ref sig .tc := ⟨.hbm, 112, rfl⟩
abbrev main_while0b_v73 : Ref sig .tc := ⟨.hbm, 113, rfl⟩
abbrev main_while0b_v74 : Ref sig .tc := ⟨.hbm, 114, rfl⟩
abbrev main_while0b_cst_32 : Ref sig .tc := ⟨.hbm, 115, rfl⟩
abbrev main_while0b_v75 : Ref sig .tc := ⟨.hbm, 116, rfl⟩
abbrev main_while0b_v76 : Ref sig .tc := ⟨.hbm, 117, rfl⟩
abbrev main_while0b_v77 : Ref sig .tc := ⟨.hbm, 118, rfl⟩
abbrev main_while0b_v78 : Ref sig .tc := ⟨.hbm, 119, rfl⟩
abbrev main_while0b_cst_33 : Ref sig .tc := ⟨.hbm, 120, rfl⟩
abbrev main_while0b_cst_34 : Ref sig .tc := ⟨.hbm, 121, rfl⟩
abbrev main_while0b_call5_v0 : Ref sig .tc := ⟨.hbm, 122, rfl⟩
abbrev main_while0b_call5_v1 : Ref sig .tc := ⟨.hbm, 123, rfl⟩
abbrev main_while0b_call5_v2 : Ref sig .tc := ⟨.hbm, 124, rfl⟩
abbrev main_while0b_call5_v3 : Ref sig .tc := ⟨.hbm, 125, rfl⟩
abbrev main_while0b_call5_v4 : Ref sig .tc := ⟨.hbm, 126, rfl⟩
abbrev main_while0b_v79 : Ref sig .tc := ⟨.hbm, 127, rfl⟩
abbrev main_while0b_cst_35 : Ref sig .tc := ⟨.hbm, 128, rfl⟩
abbrev main_while0b_v80 : Ref sig .tc := ⟨.hbm, 129, rfl⟩
abbrev main_while0b_v81 : Ref sig .tc := ⟨.hbm, 130, rfl⟩
abbrev main_while0b_cst_36 : Ref sig .tc := ⟨.hbm, 131, rfl⟩
abbrev main_while0b_v82 : Ref sig .tc := ⟨.hbm, 132, rfl⟩
abbrev main_while0b_v83 : Ref sig .tc := ⟨.hbm, 133, rfl⟩
abbrev main_while0b_v84 : Ref sig .tc := ⟨.hbm, 134, rfl⟩
abbrev main_while0b_v85 : Ref sig .tc := ⟨.hbm, 135, rfl⟩
abbrev main_while0b_cst_37 : Ref sig .tc := ⟨.hbm, 136, rfl⟩
abbrev main_while0b_cst_38 : Ref sig .tc := ⟨.hbm, 137, rfl⟩
abbrev main_while0b_call6_v0 : Ref sig .tc := ⟨.hbm, 138, rfl⟩
abbrev main_while0b_call6_v1 : Ref sig .tc := ⟨.hbm, 139, rfl⟩
abbrev main_while0b_call6_v2 : Ref sig .tc := ⟨.hbm, 140, rfl⟩
abbrev main_while0b_call6_v3 : Ref sig .tc := ⟨.hbm, 141, rfl⟩
abbrev main_while0b_call6_v4 : Ref sig .tc := ⟨.hbm, 142, rfl⟩
abbrev main_while0b_v86 : Ref sig .tc := ⟨.hbm, 143, rfl⟩
abbrev main_while0b_cst_39 : Ref sig .tc := ⟨.hbm, 144, rfl⟩
abbrev main_while0b_v87 : Ref sig .tc := ⟨.hbm, 145, rfl⟩
abbrev main_while0b_v88 : Ref sig .tc := ⟨.hbm, 146, rfl⟩
abbrev main_while0b_cst_40 : Ref sig .tc := ⟨.hbm, 147, rfl⟩
abbrev main_while0b_v89 : Ref sig .tc := ⟨.hbm, 148, rfl⟩
abbrev main_while0b_v90 : Ref sig .tc := ⟨.hbm, 149, rfl⟩
abbrev main_while0b_v91 : Ref sig .tc := ⟨.hbm, 150, rfl⟩
abbrev main_while0b_v92 : Ref sig .tc := ⟨.hbm, 151, rfl⟩
abbrev main_while0b_call7_v0 : Ref sig .tc := ⟨.hbm, 152, rfl⟩
abbrev main_while0b_call7_c : Ref sig .tc := ⟨.hbm, 153, rfl⟩
abbrev main_while0b_call7_c_0 : Ref sig .tc := ⟨.hbm, 154, rfl⟩
abbrev main_while0b_v93 : Ref sig .tc := ⟨.hbm, 155, rfl⟩
abbrev main_while0b_c_41 : Ref sig .tc := ⟨.hbm, 156, rfl⟩
abbrev main_while0b_v94 : Ref sig .tc := ⟨.hbm, 157, rfl⟩
abbrev main_cst_10 : Ref sig .tc := ⟨.hbm, 158, rfl⟩
abbrev main_v38 : Ref sig .tc := ⟨.hbm, 159, rfl⟩
abbrev main_cst_11 : Ref sig .tc := ⟨.hbm, 160, rfl⟩
abbrev main_v39 : Ref sig .tc := ⟨.hbm, 161, rfl⟩
abbrev main_v40 : Ref sig .tc := ⟨.hbm, 162, rfl⟩
abbrev main_cst_12 : Ref sig .tc := ⟨.hbm, 163, rfl⟩
abbrev main_v41 : Ref sig .tc := ⟨.hbm, 164, rfl⟩
abbrev main_v42 : Ref sig .tc := ⟨.hbm, 165, rfl⟩
abbrev main_v43 : Ref sig .tc := ⟨.hbm, 166, rfl⟩
abbrev main_v44 : Ref sig .tc := ⟨.hbm, 167, rfl⟩
abbrev main_v45 : Ref sig .tc := ⟨.hbm, 168, rfl⟩
abbrev main_v46 : Ref sig .tc := ⟨.hbm, 169, rfl⟩
abbrev main_cst_13 : Ref sig .tc := ⟨.hbm, 170, rfl⟩
abbrev main_cst_14 : Ref sig .tc := ⟨.hbm, 171, rfl⟩
abbrev main_call8_v0 : Ref sig .tc := ⟨.hbm, 172, rfl⟩
abbrev main_call8_v1 : Ref sig .tc := ⟨.hbm, 173, rfl⟩
abbrev main_call8_v2 : Ref sig .tc := ⟨.hbm, 174, rfl⟩
abbrev main_call8_v3 : Ref sig .tc := ⟨.hbm, 175, rfl⟩
abbrev main_call8_v4 : Ref sig .tc := ⟨.hbm, 176, rfl⟩
abbrev main_v47 : Ref sig .tc := ⟨.hbm, 177, rfl⟩
abbrev main_v48 : Ref sig .tc := ⟨.hbm, 178, rfl⟩
abbrev main_v49 : Ref sig .tc := ⟨.hbm, 179, rfl⟩
abbrev main_cst_15 : Ref sig .tc := ⟨.hbm, 180, rfl⟩
abbrev main_v50 : Ref sig .tc := ⟨.hbm, 181, rfl⟩
abbrev main_v51 : Ref sig .tc := ⟨.hbm, 182, rfl⟩
abbrev main_v52 : Ref sig .tc := ⟨.hbm, 183, rfl⟩
abbrev main_v53 : Ref sig .tc := ⟨.hbm, 184, rfl⟩
abbrev main_cst_16 : Ref sig .tc := ⟨.hbm, 185, rfl⟩
abbrev main_v54 : Ref sig .tc := ⟨.hbm, 186, rfl⟩

abbrev nD : Nat := 1
abbrev τ : Topo := Topo.v7x

variable {F : FTy → Type} [FloatOps F]

abbrev main_while0_count : Scf.Loop 32 := ⟨0#32, 20#32, 1#32⟩
-- ==== Proof.RI.Keep.lean ====
/- The reference's buffers that its loop, and its other stretches, leave alone; its frame. -/
module

public import proofs.«01_k».proof.Defs
public import proofs.«01_k».proof.Proof.Gen.ReferenceIdeal
public import proofs.«01_k».proof.Proof.Gen.ReferenceIdeal.Run
public import Idealize.ShloMosaic.Lib.Quiescent
public import Idealize.ShloMosaic.Lib.Claim

@[expose] public section

set_option maxRecDepth 8192

noncomputable section

namespace Cert.Proof.Reference

open Idealize.ShloMosaic Idealize.ShloMosaic.TcCoe Idealize.ShloMosaic.StableHlo
open Idealize.SL.Sem
open Cert.ReferenceIdeal Cert.ReferenceIdeal.Gen Cert.ReferenceIdeal.Value

variable {F : FTy → Type} [FloatOps F]

/-- What the loop's body and its condition write. -/
abbrev loopW : List (List (Ref sig .tc)) := [condOps_W, while0Ops0_W, while0Ops0_1_W, while0Ops0_2_W, while0Ops0_3_W, while0Ops0_4_W, while0Ops0_5_W, while0Ops0_6_W, while0Ops0_7_W, while0Ops0_8_W, while0Ops0_9_W, while0Ops0_10_W, while0Ops0_11_W, while0Ops0_12_W]
/-- What the stretches before the loop write. -/
abbrev preW : List (List (Ref sig .tc)) := [hostOps0_W, hostOps0_1_W, hostOps0_2_W, hostOps0_3_W]
abbrev post4_W : List (Ref sig .tc) := [main_cst_10, main_v38, main_cst_11, main_v39, main_v40, main_cst_12, main_v41, main_v42, main_v43, main_v44, main_v45, main_v46, main_cst_13, main_cst_14]
abbrev post5_W : List (Ref sig .tc) := [main_call8_v0, main_call8_v1, main_call8_v2, main_call8_v3, main_call8_v4, main_v47]
abbrev post6_W : List (Ref sig .tc) := [main_v48, main_v49, main_cst_15, main_v50, main_v51, main_v52, main_v53, main_cst_16, main_v54]
theorem post4_writes : (hostOps0_4 : List (HloOp τ sig (Elt F))).Forall fun op => op.writes ⊆ (post4_W.map (Proc.devRef (τ := τ) .tc)).toFinset :=
  StableHlo.forall_writes_sub_of_map rfl
theorem post5_writes : (hostOps0_5 : List (HloOp τ sig (Elt F))).Forall fun op => op.writes ⊆ (post5_W.map (Proc.devRef (τ := τ) .tc)).toFinset :=
  StableHlo.forall_writes_sub_of_map rfl
theorem post6_writes : (hostOps0_6 : List (HloOp τ sig (Elt F))).Forall fun op => op.writes ⊆ (post6_W.map (Proc.devRef (τ := τ) .tc)).toFinset :=
  StableHlo.forall_writes_sub_of_map rfl
/-- What the stretches after the loop write. -/
abbrev postW : List (List (Ref sig .tc)) := [post4_W, post5_W, post6_W]

variable (m : (ℓ : Loc nD τ sig) → Buf (Elt F) ℓ) (ρ : Dev nD → PrngReg)

/-- One trip leaves what the loop does not write. -/
theorem trip_keep (r : Ref sig .tc) (h : ∀ W ∈ loopW, r ∉ W) (V : Valuation τ sig (Elt F)) :
    afterL bodyI (after condOps V) (Proc.devRef .tc r) = V (Proc.devRef .tc r) := by
  simp only [afterL_cons, afterL_nil]
  rw [after_of_writes_sub while0Ops0_12 _ while0Ops0_12_writes (h _ (by simp)), after_of_writes_sub while0Ops0_11 _ while0Ops0_11_writes (h _ (by simp)), after_of_writes_sub while0Ops0_10 _ while0Ops0_10_writes (h _ (by simp)), after_of_writes_sub while0Ops0_9 _ while0Ops0_9_writes (h _ (by simp)), after_of_writes_sub while0Ops0_8 _ while0Ops0_8_writes (h _ (by simp)), after_of_writes_sub while0Ops0_7 _ while0Ops0_7_writes (h _ (by simp)), after_of_writes_sub while0Ops0_6 _ while0Ops0_6_writes (h _ (by simp)), after_of_writes_sub while0Ops0_5 _ while0Ops0_5_writes (h _ (by simp)), after_of_writes_sub while0Ops0_4 _ while0Ops0_4_writes (h _ (by simp)), after_of_writes_sub while0Ops0_3 _ while0Ops0_3_writes (h _ (by simp)), after_of_writes_sub while0Ops0_2 _ while0Ops0_2_writes (h _ (by simp)), after_of_writes_sub while0Ops0_1 _ while0Ops0_1_writes (h _ (by simp)), after_of_writes_sub while0Ops0 _ while0Ops0_writes (h _ (by simp)),
    after_of_writes_sub condOps _ condOps_writes (h _ (by simp))]

/-- Every number of trips leaves what the loop does not write. -/
theorem atK_keep (r : Ref sig .tc) (h : ∀ W ∈ loopW, r ∉ W) (c : Dev nD) :
    ∀ k, atK m k c (Proc.devRef .tc r) = entryContents preI m c (Proc.devRef .tc r)
  | 0 => rfl
  | k + 1 => (trip_keep r h (atK m k c)).trans (atK_keep r h c k)

theorem entry_keep (r : Ref sig .tc) (h : ∀ W ∈ preW, r ∉ W) (c : Dev nD) :
    entryContents preI m c (Proc.devRef .tc r) = m ((c.tc : Thread nD τ).loc r) := by
  simp only [entryContents, afterL_cons, afterL_nil]
  rw [after_of_writes_sub hostOps0_3 _ hostOps0_3_writes (h _ (by simp)), after_of_writes_sub hostOps0_2 _ hostOps0_2_writes (h _ (by simp)),
    after_of_writes_sub hostOps0_1 _ hostOps0_1_writes (h _ (by simp)), after_of_writes_sub hostOps0 _ hostOps0_writes (h _ (by simp))]

theorem post_keep (r : Ref sig .tc) (h : ∀ W ∈ postW, r ∉ W) (V : Valuation τ sig (Elt F)) :
    afterL postI V (Proc.devRef .tc r) = V (Proc.devRef .tc r) := by
  simp only [afterL_cons, afterL_nil]
  rw [after_of_writes_sub hostOps0_6 _ post6_writes (h _ (by simp)), after_of_writes_sub hostOps0_5 _ post5_writes (h _ (by simp)),
    after_of_writes_sub hostOps0_4 _ post4_writes (h _ (by simp))]

/-- A buffer no operation writes ends as it was at launch. -/
theorem final_keep (r : Ref sig .tc) (h : ∀ W ∈ preW ++ loopW ++ postW, r ∉ W) (c : Dev nD) :
    finalContents condOps preI bodyI postI 20 m c (Proc.devRef .tc r) = m ((c.tc : Thread nD τ).loc r) := by
  unfold finalContents
  rw [post_keep r (fun W hW => h W (by simp only [List.mem_append]; exact .inr hW)),
    after_of_writes_sub condOps _ condOps_writes (h _ (by simp))]
  exact (atK_keep m r (fun W hW => h W (by simp only [List.mem_append]; exact .inl (.inr hW))) c 20).trans
    (entry_keep m r (fun W hW => h W (by simp only [List.mem_append]; exact .inl (.inl hW))) c)

/-- The five arguments end as they were. -/
theorem final_args (c : Dev nD) :
    finalContents condOps preI bodyI postI 20 m c (Proc.devRef .tc main_arg0) = m ((c.tc : Thread nD τ).loc main_arg0) ∧
    finalContents condOps preI bodyI postI 20 m c (Proc.devRef .tc main_arg1) = m ((c.tc : Thread nD τ).loc main_arg1) ∧
    finalContents condOps preI bodyI postI 20 m c (Proc.devRef .tc main_arg2) = m ((c.tc : Thread nD τ).loc main_arg2) ∧
    finalContents condOps preI bodyI postI 20 m c (Proc.devRef .tc main_arg3) = m ((c.tc : Thread nD τ).loc main_arg3) ∧
    finalContents condOps preI bodyI postI 20 m c (Proc.devRef .tc main_arg4) = m ((c.tc : Thread nD τ).loc main_arg4) :=
  ⟨final_keep m _ (by decide +kernel) c, final_keep m _ (by decide +kernel) c, final_keep m _ (by decide +kernel) c,
    final_keep m _ (by decide +kernel) c, final_keep m _ (by decide +kernel) c⟩

/-- The reference's frame: its run leaves the arguments, and it has no semaphores. -/
theorem frame_main : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4)) ∧ r.2.sem = fun _ => 0) := by
  refine (θ_run defs _ _).mono (fun r h => ⟨fun c => ?_, sem_eq_zero_of_no_sems (by decide) r.2⟩) (run_fold (F := F) m ρ)
  obtain ⟨a0, a1, a2, a3, a4⟩ := final_args m c
  exact ⟨(h c main_arg0 (by decide)).trans a0, (h c main_arg1 (by decide)).trans a1, (h c main_arg2 (by decide)).trans a2,
    (h c main_arg3 (by decide)).trans a3, (h c main_arg4 (by decide)).trans a4⟩

end Cert.Proof.Reference

end
-- ==== Proof.KI.Spec.lean ====
/- What both programs compute, over the extended reals, and why the solver's values are finite. -/
module

public import proofs.«01_k».proof.Proof.Gen.KernelIdeal.Skeleton
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.SL.Sem

/-- A matrix of one row for each template and one column for each proposal. -/
abbrev Mat := FVec Ideal S24x256 .f32

/-- The guard of the divisions. -/
def epsS : EReal := Ideal.ofBits .f32 0x322BCC77#32

/-- Clipping to the unit interval. -/
def clipS (x : EReal) : EReal := min 1 (max 0 x)

/-- One projection: clip, then divide by the row's sum. -/
def projS (x : Mat) : Mat := fun j => Ideal.div (clipS (x j)) ((∑ q : Fin 256, clipS (x (ix2 (j 0) q))) + epsS)

/-- One gradient step of cost `-sim`. -/
def gradS (sim x : Mat) : Mat := fun j => x j - Ideal.ofBits .f32 0x3DCCCCCD#32 * (-(sim j))

/-- One step of the solver. -/
def stepS (sim x : Mat) : Mat := projS^[5] (gradS sim x)

/-- The solver's iterates, from the uniform matrix. -/
def xS (sim : Mat) : ℕ → Mat
  | 0 => fun _ => Ideal.ofBits .f32 0x3B800000#32
  | k + 1 => stepS sim (xS sim k)

/-- The sum of the first `n` iterates. -/
def sumS (sim : Mat) (n : ℕ) : Mat := fun j => ∑ k ∈ Finset.range n, xS sim (k + 1) j

/-- The mean of the iterates. -/
def ridxS (sim : Mat) : Mat := fun j => Ideal.div (sumS sim 20 j) (Ideal.ofBits .f32 0x41A00000#32)

/-- The mean where it exceeds the threshold, zero elsewhere. -/
def binS (sim : Mat) : Mat := fun j =>
  ridxS sim j * (if Ideal.ofBits .f32 0x3C23D70A#32 < ridxS sim j then 1 else 0)

/-- The matching score. -/
def msS (sim : Mat) (o : Fin 24) : EReal :=
  Finset.fold max (Ideal.ofBits .f32 0xFF800000#32) (fun p : Fin 256 => clipS (ridxS sim (ix2 o p)) * sim (ix2 o p)) Finset.univ

/-- The detection score. -/
def dsS (sim : Mat) (ps : Fin 256 → EReal) (o : Fin 24) : EReal := ∑ p : Fin 256, ps p * binS sim (ix2 o p)

/-- The mask a template selects, at one place. -/
def outS (sim : Mat) (b : Fin 256 → EReal) (o : Fin 24) : EReal := ∑ p : Fin 256, binS sim (ix2 o p) * b p

/-- The similarity of the features. -/
def featS (kf : FVec Ideal S256x256 .f32) (tf : FVec Ideal S2x24x256 .f32) (o : Fin 24) (p : Fin 256) : EReal :=
  Ideal.div
    (∑ x : Fin 256, (∑ t : Fin 2, Ideal.div (tf (ix3 t o x)) (Ideal.sqrt (∑ y : Fin 256, tf (ix3 t o y) * tf (ix3 t o y)) + epsS))
      * Ideal.div (kf (ix2 p x)) (Ideal.sqrt (∑ y : Fin 256, kf (ix2 p y) * kf (ix2 p y)) + epsS))
    (Ideal.ofBits .f32 0x40000000#32)

/-- The similarity matrix, of the features and the masks' overlaps and sizes. -/
def simS (kf : FVec Ideal S256x256 .f32) (tf : FVec Ideal S2x24x256 .f32) (inter : Fin 24 → Fin 256 → EReal)
    (asum : Fin 24 → EReal) (bsum : Fin 256 → EReal) : Mat := fun j =>
  featS kf tf (j 0) (j 1) * Ideal.ofBits .f32 0x3F000000#32
    + Ideal.div (inter (j 0) (j 1)) (asum (j 0) + bsum (j 1) - inter (j 0) (j 1) + epsS) * Ideal.ofBits .f32 0x3F000000#32

/-- The masks' overlaps, one line of all pixels. -/
def interS (tm : FVec Ideal S24x240x432 .f32) (mk : FVec Ideal S256x240x432 .f32) (o : Fin 24) (p : Fin 256) : EReal :=
  ∑ k : Fin 103680, tm (ix3 o (⟨k.val / 432, by omega⟩ : Fin 240) (⟨k.val % 432, by omega⟩ : Fin 432))
    * mk (ix3 p (⟨k.val / 432, by omega⟩ : Fin 240) (⟨k.val % 432, by omega⟩ : Fin 432))

/-- The template masks' sizes. -/
def asumS (tm : FVec Ideal S24x240x432 .f32) (o : Fin 24) : EReal :=
  ∑ k : Fin 103680, tm (ix3 o (⟨k.val / 432, by omega⟩ : Fin 240) (⟨k.val % 432, by omega⟩ : Fin 432))

/-- The proposal masks' sizes. -/
def bsumS (mk : FVec Ideal S256x240x432 .f32) (p : Fin 256) : EReal :=
  ∑ k : Fin 103680, mk (ix3 p (⟨k.val / 432, by omega⟩ : Fin 240) (⟨k.val % 432, by omega⟩ : Fin 432))

/-- The similarity matrix of the argument arrays. -/
def simArr (kf : FVec Ideal S256x256 .f32) (mk : FVec Ideal S256x240x432 .f32) (tf : FVec Ideal S2x24x256 .f32)
    (tm : FVec Ideal S24x240x432 .f32) : Mat := simS kf tf (interS tm mk) (asumS tm) (bsumS mk)

/-! ## Finiteness -/

theorem epsS_pos : ∃ r : ℝ, 0 < r ∧ epsS = (r : EReal) := by
  refine ⟨11258999 * (2 : ℝ) ^ (-50 : ℤ), by positivity, ?_⟩
  simp [epsS, Ideal.ofBits, Ideal.ieee, -EReal.coe_mul]

theorem twenty : Ideal.ofBits .f32 0x41A00000#32 = ((20 : ℝ) : EReal) := by
  simp [Ideal.ofBits, Ideal.ieee, -EReal.coe_mul]; norm_num

/-- A quotient of reals by a nonzero real is real. -/
theorem div_real (a b : ℝ) (hb : b ≠ 0) : Ideal.div (a : EReal) (b : EReal) = ((a * b⁻¹ : ℝ) : EReal) := by
  rw [Ideal.div, if_neg (by exact_mod_cast hb), ← EReal.coe_inv, ← EReal.coe_mul]

theorem clipS_real (x : EReal) : ∃ r : ℝ, 0 ≤ r ∧ clipS x = (r : EReal) := by
  unfold clipS
  induction x using EReal.rec with
  | bot => exact ⟨0, le_refl _, by simp⟩
  | top => exact ⟨1, zero_le_one, by simp⟩
  | coe a =>
    refine ⟨min 1 (max 0 a), by positivity, ?_⟩
    rw [EReal.coe_strictMono.monotone.map_min, EReal.coe_strictMono.monotone.map_max]
    rfl

/-- A finite sum of reals is real. -/
theorem sum_real {ι : Type} (s : Finset ι) (f : ι → EReal) (h : ∀ i, ∃ r : ℝ, f i = (r : EReal)) :
    ∃ r : ℝ, ∑ i ∈ s, f i = (r : EReal) :=
  Finset.sum_induction f (fun y => ∃ r : ℝ, y = (r : EReal))
    (fun _ _ ⟨a, ha⟩ ⟨b, hb⟩ => ⟨a + b, by rw [ha, hb, EReal.coe_add]⟩) ⟨0, rfl⟩ fun i _ => h i

theorem sum_real_nonneg {ι : Type} (s : Finset ι) (f : ι → EReal) (h : ∀ i, ∃ r : ℝ, 0 ≤ r ∧ f i = (r : EReal)) :
    ∃ r : ℝ, 0 ≤ r ∧ ∑ i ∈ s, f i = (r : EReal) :=
  Finset.sum_induction f (fun y => ∃ r : ℝ, 0 ≤ r ∧ y = (r : EReal))
    (fun _ _ ⟨a, ha0, ha⟩ ⟨b, hb0, hb⟩ => ⟨a + b, add_nonneg ha0 hb0, by rw [ha, hb, EReal.coe_add]⟩) ⟨0, le_refl _, rfl⟩ fun i _ => h i

/-- A projection's values are real, whatever it projects. -/
theorem projS_real (x : Mat) (j : S24x256.Idx) : ∃ r : ℝ, projS x j = (r : EReal) := by
  obtain ⟨a, -, ha⟩ := clipS_real (x j)
  obtain ⟨b, hb, hs⟩ := sum_real_nonneg Finset.univ (fun q : Fin 256 => clipS (x (ix2 (j 0) q))) fun q => clipS_real _
  obtain ⟨e, he, hee⟩ := epsS_pos
  refine ⟨a * (b + e)⁻¹, ?_⟩
  unfold projS
  rw [ha, hs, hee, ← EReal.coe_add]
  exact div_real a (b + e) (by positivity)

theorem stepS_real (sim x : Mat) (j : S24x256.Idx) : ∃ r : ℝ, stepS sim x j = (r : EReal) := by
  unfold stepS
  rw [Function.iterate_succ_apply']
  exact projS_real _ j

theorem ridxS_real (sim : Mat) (j : S24x256.Idx) : ∃ r : ℝ, ridxS sim j = (r : EReal) := by
  obtain ⟨s, hs⟩ := sum_real (Finset.range 20) (fun k => xS sim (k + 1) j) fun k => stepS_real sim (xS sim k) j
  refine ⟨s * 20⁻¹, ?_⟩
  unfold ridxS sumS
  rw [hs, twenty]
  exact div_real s 20 (by norm_num)

theorem binS_real (sim : Mat) (j : S24x256.Idx) : ∃ r : ℝ, binS sim j = (r : EReal) := by
  obtain ⟨r, hr⟩ := ridxS_real sim j
  unfold binS
  split_ifs
  · exact ⟨r, by rw [hr, mul_one]⟩
  · exact ⟨0, by rw [mul_zero]; rfl⟩

/-- The low half of the thresholded mean is nothing: rounding is exact here. -/
theorem binS_sub_self (sim : Mat) (j : S24x256.Idx) : (binS sim j - binS sim j : EReal) = 0 := by
  obtain ⟨r, hr⟩ := binS_real sim j
  rw [hr, ← EReal.coe_sub, sub_self]; rfl

end Cert.Proof.KernelIdeal

end
-- ==== Proof.RI.Value.lean ====
/- The reference's buffers before its loop, through it, and after it. -/
module

public import proofs.«01_k».proof.Proof.RI.Keep
public import proofs.«01_k».proof.Proof.KI.Spec
public import Idealize.ShloMosaic.Lib.Pointwise
public import Idealize.ShloMosaic.Lib.WordCmp
public import Idealize.ShloMosaic.Lib.StableHlo.RunRead

@[expose] public section

set_option maxRecDepth 16384

noncomputable section

namespace Cert.Proof.Reference

open Idealize.ShloMosaic Idealize.ShloMosaic.TcCoe Idealize.ShloMosaic.StableHlo Idealize.ShloMosaic.Tactic
open Idealize.SL.Sem
open Cert.ReferenceIdeal Cert.ReferenceIdeal.Gen Cert.ReferenceIdeal.Value
open Cert.Proof.KernelIdeal (Mat epsS clipS projS gradS stepS xS sumS ridxS binS msS dsS outS featS simS interS asumS bsumS simArr)

variable (m : (ℓ : Loc nD τ sig) → Buf (Elt Ideal) ℓ)

/-- The argument arrays of a core. -/
abbrev kfR (c : Dev nD) : FVec Ideal S256x256 .f32 := m ((c.tc : Thread nD τ).loc main_arg0)
abbrev maskR (c : Dev nD) : FVec Ideal S256x240x432 .f32 := m ((c.tc : Thread nD τ).loc main_arg1)
abbrev tfR (c : Dev nD) : FVec Ideal S2x24x256 .f32 := m ((c.tc : Thread nD τ).loc main_arg2)
abbrev tmR (c : Dev nD) : FVec Ideal S24x240x432 .f32 := m ((c.tc : Thread nD τ).loc main_arg3)
abbrev psR (c : Dev nD) : FVec Ideal S256 .f32 := m ((c.tc : Thread nD τ).loc main_arg4)

/-- The similarity matrix of a core's argument arrays. -/
abbrev simR (c : Dev nD) : Mat := simArr (kfR m c) (maskR m c) (tfR m c) (tmR m c)

theorem entry_v34 (c : Dev nD) : (entryContents preI m c (Proc.devRef .tc main_v34) : Mat) = fun j => -simR m c j := by
  simp only [entryContents, afterL_cons, afterL_nil]
  after_reads_simp
  simp -implicitDefEqProofs only [StableHlo.TRef.toBuf, StableHlo.TRef.ofBuf, cast_cast, cast_eq]
  funext j
  idx_vars j
  pointwise [simArr, simS, featS, interS, asumS, bsumS]
  rfl

theorem entry_v15 (c : Dev nD) (p : Fin 256) (k : Fin 103680) :
    (entryContents preI m c (Proc.devRef .tc main_v15) : FVec Ideal S256x103680 .f32) (ix2 p k)
      = maskR m c (ix3 p (⟨k.val / 432, by omega⟩ : Fin 240) (⟨k.val % 432, by omega⟩ : Fin 432)) := by
  simp only [entryContents, afterL_cons, afterL_nil]
  after_reads_simp
  pointwise

theorem entry_v37_0 (c : Dev nD) : (entryContents preI m c (Proc.devRef .tc main_v37_0) : Mat) = fun j => -simR m c j := by
  refine Eq.trans ?_ (entry_v34 m c)
  simp only [entryContents, afterL_cons, afterL_nil]
  after_reads_simp
  try rfl

theorem entry_v37_2 (c : Dev nD) : (entryContents preI m c (Proc.devRef .tc main_v37_2) : Mat) = xS (simR m c) 0 := by
  simp only [entryContents, afterL_cons, afterL_nil]
  after_reads_simp
  funext j
  idx_vars j
  rw [id_eq]
  pointwise [xS]

theorem entry_v37_3 (c : Dev nD) (k : Fin 20) (o : Fin 24) (p : Fin 256) :
    (entryContents preI m c (Proc.devRef .tc main_v37_3) : FVec Ideal S20x24x256 .f32) (ix3 k o p) = (0 : EReal) := by
  simp only [entryContents, afterL_cons, afterL_nil]
  after_reads_simp
  rw [id_eq]
  pointwise

/-! ## One trip -/

/-- The clip of the reference's step. -/
def clipR (x : Mat) : Mat :=
  minimumf (broadcastInDim S24x256 ![] bcast_S_S24x256 (id (constant S_ .f32 0x3F800000#32))) (maximumf (broadcastInDim S24x256 ![] bcast_S_S24x256 (id (constant S_ .f32 0x00000000#32))) x)

/-- The division by the rows' sums of the reference's step. -/
def normR (x : Mat) : Mat :=
  Host.divf x (broadcastInDim S24x256 ![0, 1] bcast_S24x1_S24x256_0_1 (addf (broadcastInDim S24x1 ![0] bcast_S24_S24x1_0 (Host.reduceAdd x (constant S_ .f32 0x00000000#32) reducesTo_S24x256_S24_d1 h_S_)) (broadcastInDim S24x1 ![] bcast_S_S24x1 (constant S_ .f32 0x322BCC77#32))))

theorem clipR_eq (x : Mat) : clipR x = fun j => clipS (x j) := by
  funext j
  idx_vars j
  unfold clipR
  simp only [id_eq]
  pointwise [clipS]

theorem proj_eq (x : Mat) : normR (clipR x) = projS x := by
  rw [clipR_eq]
  funext j
  idx_vars j
  pointwise [normR, projS]
  rfl

/-- The iterate a trip computes. -/
theorem v92_eq (V : Valuation τ sig (Elt Ideal)) (sim x : Mat) (h0 : (V (Proc.devRef .tc main_v37_0) : Mat) = fun j => -sim j)
    (h2 : (V (Proc.devRef .tc main_v37_2) : Mat) = x) : (res_main_while0b_v92 V : Mat) = stepS sim x := by
  have e58 : (res_main_while0b_v58 V : Mat) = clipR (gradS sim x) := by
    unfold res_main_while0b_v58
    refine congrArg clipR ?_
    funext j
    have h0' := congrFun h0 j
    have h2' := congrFun h2 j
    idx_vars j
    pointwise [gradS]
    exact congrArg₂ (fun a b : EReal => a - Ideal.ofBits .f32 0x3DCCCCCD#32 * b) h2' h0'
  have e65 : (res_main_while0b_v65 V : Mat) = clipR (projS (gradS sim x)) := (congrArg (fun y => clipR (normR y)) e58).trans (congrArg clipR (proj_eq _))
  have e72 : (res_main_while0b_v72 V : Mat) = clipR (projS (projS (gradS sim x))) := (congrArg (fun y => clipR (normR y)) e65).trans (congrArg clipR (proj_eq _))
  have e79 : (res_main_while0b_v79 V : Mat) = clipR (projS (projS (projS (gradS sim x)))) := (congrArg (fun y => clipR (normR y)) e72).trans (congrArg clipR (proj_eq _))
  have e86 : (res_main_while0b_v86 V : Mat) = clipR (projS (projS (projS (projS (gradS sim x))))) := (congrArg (fun y => clipR (normR y)) e79).trans (congrArg clipR (proj_eq _))
  exact (congrArg normR e86).trans (proj_eq _)

/-- One row put in the stack of iterates. -/
theorem put_at (x : FVec Ideal S20x24x256 .f32) (y : Mat) (start : Fin 3 → Int) (k : ℕ) (hk : k < 20)
    (hs : ∀ a, start a = ((![k, 0, 0] : Fin 3 → ℕ) a : Int)) (i : Fin 20) (o : Fin 24) (p : Fin 256) :
    Host.dynamicUpdateSlice x (broadcastInDim S1x24x256 ![1, 2] bcast_S24x256_S1x24x256_1_2 y) start updateFits_S20x24x256_S1x24x256 (ix3 i o p)
      = if i.val = k then y (ix2 o p) else x (ix3 i o p) := by
  have hsl : (S20x24x256 : Shape).Slices ![k, 0, 0] S1x24x256 := by
    refine ⟨rfl, fun a => ?_⟩
    fin_cases a
    · exact hk
    · exact le_refl _
    · exact le_refl _
  rw [Idealize.ShloMosaic.WordCmp.dynamicUpdateSlice_eq_update x _ start updateFits_S20x24x256_S1x24x256 ![k, 0, 0] hsl hs]
  unfold updateSlice
  by_cases e : i.val = k
  · rw [if_pos e, dif_pos (by
      intro a
      fin_cases a
      · exact ⟨le_of_eq e.symm, by change i.val < k + 1; omega⟩
      · exact ⟨Nat.zero_le _, by change o.val < 0 + 24; omega⟩
      · exact ⟨Nat.zero_le _, by change p.val < 0 + 256; omega⟩)]
    unfold broadcastInDim
    refine congrArg y ?_
    idx_ext
  · rw [if_neg e, dif_neg (by
      intro h
      have h0 := h 0
      change k ≤ i.val ∧ i.val < k + 1 at h0
      omega)]

/-- Before a trip: the cost, the iterate, and the iterates kept so far. -/
theorem loop_inv (c : Dev nD) : ∀ k : ℕ, k ≤ 20 →
    (atK m k c (Proc.devRef .tc main_v37_0) : Mat) = (fun j => -simR m c j)
    ∧ (atK m k c (Proc.devRef .tc main_v37_2) : Mat) = xS (simR m c) k
    ∧ ∀ (i : Fin 20) (o : Fin 24) (p : Fin 256), i.val < k →
        (atK m k c (Proc.devRef .tc main_v37_3) : FVec Ideal S20x24x256 .f32) (ix3 i o p) = xS (simR m c) (i.val + 1) (ix2 o p)
  | 0, _ => ⟨entry_v37_0 m c, entry_v37_2 m c, fun _ _ _ h => absurd h (by omega)⟩
  | k + 1, hk => by
    obtain ⟨h0, h2, h3⟩ := loop_inv c k (by omega)
    have hv := v92_eq (atK m k c) (simR m c) _ h0 h2
    have hc := atK_ctr m c k
    refine ⟨((trip_agree (atK m k c) main_v37_0 (by decide)).trans (STEP_main_v37_0 _)).trans h0,
      ((trip_agree (atK m k c) main_v37_2 (by decide)).trans (STEP_main_v37_2 _)).trans hv, fun i o p hi => ?_⟩
    have e3 := (trip_agree (atK m k c) main_v37_3 (by decide)).trans (STEP_main_v37_3 _)
    refine (congrFun e3 (ix3 i o p)).trans ?_
    unfold step_main_v37_3
    rw [id_eq]
    refine (put_at _ _ _ k (by omega) (fun a => ?_) i o p).trans ?_
    · fin_cases a
      · refine (congrArg BitVec.toInt (congrFun hc _)).trans ?_
        exact (by decide : ∀ k : Fin 20, (Scf.iv 0#32 1#32 k.val).toInt = (k.val : Int)) ⟨k, by omega⟩
      · rfl
      · rfl
    · by_cases e : i.val = k
      · rw [if_pos e]
        exact (congrFun hv _).trans (by rw [e]; rfl)
      · rw [if_neg e]
        exact h3 i o p (by omega)

end Cert.Proof.Reference

end
-- ==== Proof.RI.Post.lean ====
/- The reference's results, as functions of the argument arrays. -/
module

public import proofs.«01_k».proof.Proof.RI.Value

@[expose] public section

set_option maxRecDepth 16384

noncomputable section

namespace Cert.Proof.Reference

open Idealize.ShloMosaic Idealize.ShloMosaic.TcCoe Idealize.ShloMosaic.StableHlo Idealize.ShloMosaic.Tactic
open Idealize.SL.Sem
open Cert.ReferenceIdeal Cert.ReferenceIdeal.Gen Cert.ReferenceIdeal.Value
open Cert.Proof.KernelIdeal (Mat epsS clipS projS gradS stepS xS sumS ridxS binS msS dsS outS)

/-- The mean of the iterates kept. -/
def meanR (x : FVec Ideal S20x24x256 .f32) : Mat :=
  Host.divf (Host.reduceAdd x (constant S_ .f32 0x00000000#32) reducesTo_S20x24x256_S24x256_d0 h_S_) (broadcastInDim S24x256 ![] bcast_S_S24x256 (constant S_ .f32 0x41A00000#32))

theorem meanR_eq (x : FVec Ideal S20x24x256 .f32) (sim : Mat)
    (h : ∀ (i : Fin 20) (o : Fin 24) (p : Fin 256), x (ix3 i o p) = xS sim (i.val + 1) (ix2 o p)) : meanR x = ridxS sim := by
  funext j
  idx_vars j
  pointwise [meanR, ridxS, sumS]
  refine congrArg (fun s : EReal => Ideal.div s (Ideal.ofBits .f32 0x41A00000#32)) ?_
  rw [Finset.sum_range (fun k => xS sim (k + 1) (ix2 j0 j1))]
  exact Finset.sum_congr rfl fun k _ => h k j0 j1

/-- The entries above the threshold. -/
def selR (r : Mat) : Mat :=
  mulf r (uitofp .f32 (cmpf .ogt r (broadcastInDim S24x256 ![] bcast_S_S24x256 (constant S_ .f32 0x3C23D70A#32))))

theorem bit_nat (b : Bool) : ((((BitVec.ofBool b).toNat : ℝ)) : EReal) = if b then 1 else 0 := by
  cases b <;> simp

theorem selR_eq (sim : Mat) : selR (ridxS sim) = binS sim := by
  funext j
  idx_vars j
  pointwise [selR, binS]
  refine Ideal.mul_congr rfl ?_
  refine (bit_nat _).trans ?_
  simp only [decide_eq_true_eq]

variable (V : Valuation τ sig (Elt Ideal)) (sim : Mat)

/-- The mean of the iterates the loop leaves. -/
abbrev meanV : Mat := meanR (V (Proc.devRef .tc main_v37_3))

theorem post_v46 (hm : meanV V = ridxS sim) (mk : FVec Ideal S256x240x432 .f32)
    (h15 : ∀ (p : Fin 256) (k : Fin 103680), (V (Proc.devRef .tc main_v15) : FVec Ideal S256x103680 .f32) (ix2 p k)
      = mk (ix3 p (⟨k.val / 432, by omega⟩ : Fin 240) (⟨k.val % 432, by omega⟩ : Fin 432))) :
    (afterL postI V (Proc.devRef .tc main_v46) : FVec Ideal S24x240x432 .f32)
      = fun i => outS sim (fun p => mk (ix3 p (i 1) (i 2))) (i 0) := by
  simp only [afterL_cons, afterL_nil]
  after_reads_simp
  refine Eq.trans (b := shapeCast S24x240x432 (Host.dotGeneral dot_S24x256_S256x103680_S24x103680_1_0_0_1_n_n none (selR (meanV V)) (V (Proc.devRef .tc main_v15)))
    shapeCasts_S24x103680_S24x240x432) rfl ?_
  rw [hm, selR_eq]
  funext i
  idx_vars i
  pointwise [outS]
  refine Finset.sum_congr rfl fun p _ => Ideal.mul_congr rfl ((h15 p _).trans ?_)
  have ha : (i1.val * 432 + i2.val) / 432 = i1.val := by omega
  have hb : (i1.val * 432 + i2.val) % 432 = i2.val := by omega
  exact congrArg₂ (fun a b => mk (ix3 p a b)) (Fin.ext ha) (Fin.ext hb)

theorem post_v50 (hm : meanV V = ridxS sim) (h34 : (V (Proc.devRef .tc main_v34) : Mat) = fun j => -sim j) :
    (afterL postI V (Proc.devRef .tc main_v50) : FVec Ideal S24 .f32) = fun i => msS sim (i 0) := by
  simp only [afterL_cons, afterL_nil]
  after_reads_simp
  simp -implicitDefEqProofs only [StableHlo.TRef.toBuf, StableHlo.TRef.ofBuf, cast_cast, cast_eq]
  refine Eq.trans (b := Host.reduce FloatOps.maximumf (mulf (clipR (meanV V)) (Host.negf (V (Proc.devRef .tc main_v34))))
    (constant S_ .f32 0xFF800000#32) reducesTo_S24x256_S24_d1 h_S_) rfl ?_
  rw [hm, h34, clipR_eq]
  funext i
  idx_vars i
  pointwise [msS]
  simp only [neg_neg]

theorem post_v54 (hm : meanV V = ridxS sim) (ps : FVec Ideal S256 .f32) (h4 : (V (Proc.devRef .tc main_arg4) : FVec Ideal S256 .f32) = ps) :
    (afterL postI V (Proc.devRef .tc main_v54) : FVec Ideal S24 .f32) = fun i => dsS sim (fun p => ps (ix1 p)) (i 0) := by
  simp only [afterL_cons, afterL_nil]
  after_reads_simp
  have e := selR_eq sim
  rw [← hm] at e
  unfold selR meanV meanR at e
  rw [e, h4]
  funext i
  idx_vars i
  pointwise [dsS]

variable (m : (ℓ : Loc nD τ sig) → Buf (Elt Ideal) ℓ) (ρ : Dev nD → PrngReg)

/-- What the loop does not write is, when its condition fails, as the loop found it. -/
theorem exit_keep (r : Ref sig .tc) (h : ∀ W ∈ loopW, r ∉ W) (c : Dev nD) :
    after condOps (atK m 20 c) (Proc.devRef .tc r) = entryContents preI m c (Proc.devRef .tc r) := by
  rw [after_of_writes_sub condOps _ condOps_writes (h _ (by simp))]
  exact atK_keep m r h c 20

theorem exit_mean (c : Dev nD) : meanV (after condOps (atK m 20 c)) = ridxS (simR m c) := by
  refine meanR_eq _ _ fun i o p => ?_
  refine (congrFun (cond_keeps (atK m 20 c) main_v37_3 (by decide)) (ix3 i o p)).trans ?_
  exact (loop_inv m c 20 (le_refl _)).2.2 i o p i.isLt

/-- The reference's three results. -/
theorem value_main : θ_run (defs (F := Ideal)) (onTc (τ := τ) (main (F := Ideal))) ⟨m, fun _ => 0, ρ⟩ (fun r => ∀ c : Dev nD,
      r.2.mem ((c.tc : Thread nD τ).loc main_v46) = (fun i => outS (simR m c) (fun p => maskR m c (ix3 p (i 1) (i 2))) (i 0) : FVec Ideal S24x240x432 .f32)
      ∧ r.2.mem ((c.tc : Thread nD τ).loc main_v50) = (fun i => msS (simR m c) (i 0) : FVec Ideal S24 .f32)
      ∧ r.2.mem ((c.tc : Thread nD τ).loc main_v54) = (fun i => dsS (simR m c) (fun p => psR m c (ix1 p)) (i 0) : FVec Ideal S24 .f32)) := by
  refine (θ_run defs _ _).mono (fun r h c => ?_) (run_fold (F := Ideal) m ρ)
  have hm := exit_mean m c
  have h34 := (exit_keep m main_v34 (by decide +kernel) c).trans (entry_v34 m c)
  have h15 := exit_keep m main_v15 (by decide +kernel) c
  have h4 := (exit_keep m main_arg4 (by decide +kernel) c).trans (entry_keep m main_arg4 (by decide +kernel) c)
  exact ⟨(h c main_v46 (by decide)).trans (post_v46 _ _ hm (maskR m c) fun p k => (congrFun h15 _).trans (entry_v15 m c p k)),
    (h c main_v50 (by decide)).trans (post_v50 _ _ hm h34),
    (h c main_v54 (by decide)).trans (post_v54 _ _ hm _ h4)⟩

end Cert.Proof.Reference

end
-- ==== Proof.KI.Base.lean ====
/- What the four kinds of grid point share: the conditions the body branches on, in closed form over the
   points; where the outputs are left alone and where they are written back; the names of the staging and
   scratch memrefs. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.TableIdle
public import Idealize.ShloMosaic.Lib.VecWindow

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 10 = 0 :=
  (fun t => by
    have ht : t.val < 10 := Nat.lt_of_lt_of_eq t.isLt N_0
    have e0 : (grid0.coords t 0).val = t.val / 5 % 2 := Pipeline.Grid.coords_val t 0 (by decide) rfl
    have e1 : (grid0.coords t 1).val = t.val / 1 % 5 := Pipeline.Grid.coords_val t 1 (by decide) rfl
    simp only [cond0_0, e0, e1]
    word_cmp
   : ∀ t : Fin grid0.N, cond0_0 (grid0.coords t) ↔ t.val % 10 = 0)

/-- The condition of the body's `scf.if` 1 (`k0_h2`), from the grid coordinates (the skeleton's scalar
    chain substituted). -/
abbrev cond0_1 (i : grid0.Coords) : Prop := k0_cond2 i = 1#1
/-- It holds at the points before point 5 — by arithmetic of the point. -/
theorem hcond0_1 : ∀ t : Fin cfg0.N, cond0_1 (grid0.coords t) ↔ t.val < 5 :=
  (fun t => by
    have ht : t.val < 10 := Nat.lt_of_lt_of_eq t.isLt N_0
    have e0 : (grid0.coords t 0).val = t.val / 5 % 2 := Pipeline.Grid.coords_val t 0 (by decide) rfl
    have e1 : (grid0.coords t 1).val = t.val / 1 % 5 := Pipeline.Grid.coords_val t 1 (by decide) rfl
    simp only [cond0_1, k0_cond2, e0, e1]
    word_cmp
   : ∀ t : Fin grid0.N, cond0_1 (grid0.coords t) ↔ t.val < 5)

/-- The condition of the body's `scf.if` 2 (`k0_h3`), from the grid coordinates (the skeleton's scalar
    chain substituted). -/
abbrev cond0_2 (i : grid0.Coords) : Prop := k0_cond3 i = 1#1
/-- It holds at point 5 only — by arithmetic of the point. -/
theorem hcond0_2 : ∀ t : Fin cfg0.N, cond0_2 (grid0.coords t) ↔ t.val % 10 = 5 :=
  (fun t => by
    have ht : t.val < 10 := Nat.lt_of_lt_of_eq t.isLt N_0
    have e0 : (grid0.coords t 0).val = t.val / 5 % 2 := Pipeline.Grid.coords_val t 0 (by decide) rfl
    have e1 : (grid0.coords t 1).val = t.val / 1 % 5 := Pipeline.Grid.coords_val t 1 (by decide) rfl
    simp only [cond0_2, k0_cond3, e0, e1]
    word_cmp
   : ∀ t : Fin grid0.N, cond0_2 (grid0.coords t) ↔ t.val % 10 = 5)

/-- The condition of the body's `scf.if` 3 (`k0_h4`), from the grid coordinates (the skeleton's scalar
    chain substituted). -/
abbrev cond0_3 (i : grid0.Coords) : Prop := k0_cond4 i = 1#1
/-- It holds at the points from point 5 on — by arithmetic of the point. -/
theorem hcond0_3 : ∀ t : Fin cfg0.N, cond0_3 (grid0.coords t) ↔ 5 ≤ t.val :=
  (fun t => by
    have ht : t.val < 10 := Nat.lt_of_lt_of_eq t.isLt N_0
    have e0 : (grid0.coords t 0).val = t.val / 5 % 2 := Pipeline.Grid.coords_val t 0 (by decide) rfl
    have e1 : (grid0.coords t 1).val = t.val / 1 % 5 := Pipeline.Grid.coords_val t 1 (by decide) rfl
    simp only [cond0_3, k0_cond4, e0, e1]
    word_cmp
   : ∀ t : Fin grid0.N, cond0_3 (grid0.coords t) ↔ 5 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S24x48x432 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x20736 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x24x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S24x48x432 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S24x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S24x1 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S5x256x20736 .i8 := Memref.whole cc0_scratch0
abbrev scM0_1 : Memref sig .tc .vmem S32x256 .f32 := Memref.whole cc0_scratch1
abbrev scM0_2 : Memref sig .tc .vmem S24x1 .f32 := Memref.whole cc0_scratch2
abbrev scM0_3 : Memref sig .tc .vmem S24x256 .f32 := Memref.whole cc0_scratch3
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## Where the outputs are left alone, and where they are written back -/

theorem idle5 (t : Fin cfg0.N) (h : t.val < 5) : cfg0.idle 5 (grid0.coords t) = true :=
  (by decide +kernel : ∀ t : Fin cfg0.N, t.val < 5 → cfg0.idle 5 (grid0.coords t) = true) t h
theorem live5 (t : Fin cfg0.N) (h : ¬ t.val < 5) : cfg0.idle 5 (grid0.coords t) = false :=
  (by decide +kernel : ∀ t : Fin cfg0.N, ¬ t.val < 5 → cfg0.idle 5 (grid0.coords t) = false) t h
theorem idle6 (t : Fin cfg0.N) (h : t.val ≠ 5) : cfg0.idle 6 (grid0.coords t) = true :=
  (by decide +kernel : ∀ t : Fin cfg0.N, t.val ≠ 5 → cfg0.idle 6 (grid0.coords t) = true) t h
theorem live6 (t : Fin cfg0.N) (h : t.val = 5) : cfg0.idle 6 (grid0.coords t) = false :=
  (by decide +kernel : ∀ t : Fin cfg0.N, t.val = 5 → cfg0.idle 6 (grid0.coords t) = false) t h
theorem idle7 (t : Fin cfg0.N) (h : t.val ≠ 5) : cfg0.idle 7 (grid0.coords t) = true :=
  (by decide +kernel : ∀ t : Fin cfg0.N, t.val ≠ 5 → cfg0.idle 7 (grid0.coords t) = true) t h
theorem live7 (t : Fin cfg0.N) (h : t.val = 5) : cfg0.idle 7 (grid0.coords t) = false :=
  (by decide +kernel : ∀ t : Fin cfg0.N, t.val = 5 → cfg0.idle 7 (grid0.coords t) = false) t h
theorem noFlush5 (t : Fin cfg0.N) (h : t.val < 5) : (cfg0.win 5).flush t = false :=
  (by decide +kernel : ∀ t : Fin cfg0.N, t.val < 5 → (cfg0.win 5).flush t = false) t h
theorem doFlush5 (t : Fin cfg0.N) (h : ¬ t.val < 5) : (cfg0.win 5).flush t = true :=
  (by decide +kernel : ∀ t : Fin cfg0.N, ¬ t.val < 5 → (cfg0.win 5).flush t = true) t h
theorem noFlush6 (t : Fin cfg0.N) (h : t.val ≠ 9) : (cfg0.win 6).flush t = false :=
  (by decide +kernel : ∀ t : Fin cfg0.N, t.val ≠ 9 → (cfg0.win 6).flush t = false) t h
theorem noFlush7 (t : Fin cfg0.N) (h : t.val ≠ 9) : (cfg0.win 7).flush t = false :=
  (by decide +kernel : ∀ t : Fin cfg0.N, t.val ≠ 9 → (cfg0.win 7).flush t = false) t h
theorem doFlush6 (t : Fin cfg0.N) (h : t.val = 9) : (cfg0.win 6).flush t = true :=
  (by decide +kernel : ∀ t : Fin cfg0.N, t.val = 9 → (cfg0.win 6).flush t = true) t h
theorem doFlush7 (t : Fin cfg0.N) (h : t.val = 9) : (cfg0.win 7).flush t = true :=
  (by decide +kernel : ∀ t : Fin cfg0.N, t.val = 9 → (cfg0.win 7).flush t = true) t h

end Cert.Proof.KernelIdeal

end
-- ==== Proof.KI.Loop.lean ====
/- The solver's two counted loops, as repeated application of one trip. -/
module

public import proofs.«01_k».proof.Proof.KI.Base

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One trip of the solver: a gradient step, five projections, and the running sum of the iterates. -/
def trip (v52 v53 : FVec F S24x256 .f32) (acc : FVec F S24x256 .f32 × FVec F S24x256 .f32) :
    FVec F S24x256 .f32 × FVec F S24x256 .f32 :=
  ((k0_pay12)^[5] (k0_pay11 v52 v53 acc.1), k0_pay13 acc.2 ((k0_pay12)^[5] (k0_pay11 v52 v53 acc.1)))

theorem foldl_finRange_const {σ : Type} (f : σ → σ) : ∀ (n : ℕ) (x : σ), (List.finRange n).foldl (fun a _ => f a) x = f^[n] x
  | 0, x => by simp
  | n + 1, x => by
    rw [List.finRange_succ, List.foldl_cons, List.foldl_map, foldl_finRange_const f n, Function.iterate_succ_apply]

theorem trips1 : k0_t1_loop.trips = 20 := by decide
theorem trips2 : k0_t2_loop.trips = 5 := by decide

/-- The inner loop is five projections. -/
theorem inner_eq (i : grid0.Coords) (arg2 : Memref sig .tc .vmem S24x48x432 .f32) (harg2 : arg2.IsWhole) (arg3 : Memref sig .tc .vmem S256x20736 .i8) (harg3 : arg3.IsWhole) (arg4 : Memref sig .tc .vmem S256x256 .f32) (harg4 : arg4.IsWhole) (arg5 : Memref sig .tc .vmem S2x24x256 .f32) (harg5 : arg5.IsWhole) (arg6 : Memref sig .tc .vmem S1x256 .f32) (harg6 : arg6.IsWhole) (arg7 : Memref sig .tc .vmem S24x48x432 .f32) (harg7 : arg7.IsWhole) (arg8 : Memref sig .tc .vmem S24x1 .f32) (harg8 : arg8.IsWhole) (arg9 : Memref sig .tc .vmem S24x1 .f32) (harg9 : arg9.IsWhole) (arg10 : Memref sig .tc .vmem S5x256x20736 .i8) (harg10 : arg10.IsWhole) (arg11 : Memref sig .tc .vmem S32x256 .f32) (harg11 : arg11.IsWhole) (arg12 : Memref sig .tc .vmem S24x1 .f32) (harg12 : arg12.IsWhole) (arg13 : Memref sig .tc .vmem S24x256 .f32) (harg13 : arg13.IsWhole) (k0_h3 : k0_cond3 i = 1#1) (x : FVec F S24x256 .f32) :
    Scf.Loop.for k0_t2_loop (k0_t2_ok i k0_h3) x (k0_t2_body i arg2 harg2 arg3 harg3 arg4 harg4 arg5 harg5 arg6 harg6 arg7 harg7 arg8 harg8 arg9 harg9 arg10 harg10 arg11 harg11 arg12 harg12 arg13 harg13 k0_h3) = Prog.ret ((k0_pay12)^[5] x) := by
  refine (Scf.for_pure _ _ _ (k0_t2_ok i k0_h3) x _ (fun _ a => k0_pay12 a) (fun _ _ => rfl)).trans ?_
  rw [Scf.fold_eq, foldl_finRange_const]
  exact congrArg (fun n => Prog.ret ((k0_pay12)^[n] x)) trips2

/-- The outer loop is twenty trips. -/
theorem outer_eq (i : grid0.Coords) (arg2 : Memref sig .tc .vmem S24x48x432 .f32) (harg2 : arg2.IsWhole) (arg3 : Memref sig .tc .vmem S256x20736 .i8) (harg3 : arg3.IsWhole) (arg4 : Memref sig .tc .vmem S256x256 .f32) (harg4 : arg4.IsWhole) (arg5 : Memref sig .tc .vmem S2x24x256 .f32) (harg5 : arg5.IsWhole) (arg6 : Memref sig .tc .vmem S1x256 .f32) (harg6 : arg6.IsWhole) (arg7 : Memref sig .tc .vmem S24x48x432 .f32) (harg7 : arg7.IsWhole) (arg8 : Memref sig .tc .vmem S24x1 .f32) (harg8 : arg8.IsWhole) (arg9 : Memref sig .tc .vmem S24x1 .f32) (harg9 : arg9.IsWhole) (arg10 : Memref sig .tc .vmem S5x256x20736 .i8) (harg10 : arg10.IsWhole) (arg11 : Memref sig .tc .vmem S32x256 .f32) (harg11 : arg11.IsWhole) (arg12 : Memref sig .tc .vmem S24x1 .f32) (harg12 : arg12.IsWhole) (arg13 : Memref sig .tc .vmem S24x256 .f32) (harg13 : arg13.IsWhole) (k0_h3 : k0_cond3 i = 1#1) (v52 v53 : FVec F S24x256 .f32) (x : FVec F S24x256 .f32 × FVec F S24x256 .f32) :
    Scf.Loop.for k0_t1_loop (k0_t1_ok i k0_h3) x (k0_t1_body i arg2 harg2 arg3 harg3 arg4 harg4 arg5 harg5 arg6 harg6 arg7 harg7 arg8 harg8 arg9 harg9 arg10 harg10 arg11 harg11 arg12 harg12 arg13 harg13 k0_h3 v52 v53) = Prog.ret ((trip v52 v53)^[20] x) := by
  refine (Scf.for_pure _ _ _ (k0_t1_ok i k0_h3) x _ (fun _ a => trip v52 v53 a) (fun k acc => ?_)).trans ?_
  · obtain ⟨a, b⟩ := acc
    unfold k0_t1_body
    simp only [inner_eq]
    rfl
  · rw [Scf.fold_eq, foldl_finRange_const]
    exact congrArg (fun n => Prog.ret ((trip v52 v53)^[n] x)) trips1

end Cert.Proof.KernelIdeal
-- ==== Proof.KI.RunB.lean ====
/- A point of the first phase after its first: the block is added to the sums and kept. -/
module

public import proofs.«01_k».proof.Proof.KI.Loop

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The kept copy of the masks with one block of rows put in its slot. -/
def putSlot (i : grid0.Coords) (x1 : Vec F S256x20736 .i8) (xs0 : Vec F S5x256x20736 .i8) : Vec F S5x256x20736 .i8 :=
  VecWindow.put (VecWindow.put xs0 (k0_off1 i) S1x128x20736.size (k0_pay7 (F := F) x1)) (k0_off2 i) S1x128x20736.size (k0_pay8 (F := F) x1)

/-- One slot of the kept copy of the masks. -/
def getSlot (i : grid0.Coords) (h : k0_cond4 i = 1#1) (xs0 : Vec F S5x256x20736 .i8) : Vec F S1x256x20736 .i8 :=
  VecWindow.window xs0 (k0_off3 i) S1x256x20736.size (k0_off3_inb i h)

/-- The first 24 rows of the accumulator. -/
def topRows (x : Vec F S32x256 .f32) : Vec F S24x256 .f32 :=
  VecWindow.window x ![0, 0] S24x256.size inb_S32x256_S24x256_0_0

/-- Row 24 of the accumulator: the sums of the masks. -/
def sumRow (x : Vec F S32x256 .f32) : Vec F S1x256 .f32 :=
  VecWindow.window x ![24, 0] S1x256.size inb_S32x256_S1x256_24_0

/-- The similarity matrix. -/
def simOf (x2 : Vec F S256x256 .f32) (x3 : Vec F S2x24x256 .f32) (xs1 : Vec F S32x256 .f32) (xs2 : Vec F S24x1 .f32) : FVec F S24x256 .f32 :=
  k0_pay20 (topRows xs1) (sumRow xs1) xs2 x2 x3

/-- The sum of the solver's iterates. -/
def iterSum (v52 : FVec F S24x256 .f32) : FVec F S24x256 .f32 :=
  ((trip v52 k0_pay21)^[20] (k0_pay9, k0_pay10)).2

set_option maxHeartbeats 4000000 in
/-- A point of the first phase after its first: the block is added to the sums and kept. -/
theorem run_B (c : Dev nD) (i : grid0.Coords) (arg2 : Memref sig .tc .vmem S24x48x432 .f32) (harg2 : arg2.IsWhole) (arg3 : Memref sig .tc .vmem S256x20736 .i8) (harg3 : arg3.IsWhole) (arg4 : Memref sig .tc .vmem S256x256 .f32) (harg4 : arg4.IsWhole) (arg5 : Memref sig .tc .vmem S2x24x256 .f32) (harg5 : arg5.IsWhole) (arg6 : Memref sig .tc .vmem S1x256 .f32) (harg6 : arg6.IsWhole) (arg7 : Memref sig .tc .vmem S24x48x432 .f32) (harg7 : arg7.IsWhole) (arg8 : Memref sig .tc .vmem S24x1 .f32) (harg8 : arg8.IsWhole) (arg9 : Memref sig .tc .vmem S24x1 .f32) (harg9 : arg9.IsWhole) (arg10 : Memref sig .tc .vmem S5x256x20736 .i8) (harg10 : arg10.IsWhole) (arg11 : Memref sig .tc .vmem S32x256 .f32) (harg11 : arg11.IsWhole) (arg12 : Memref sig .tc .vmem S24x1 .f32) (harg12 : arg12.IsWhole) (arg13 : Memref sig .tc .vmem S24x256 .f32) (harg13 : arg13.IsWhole) (hc0 : ¬cond0_0 i) (hc1 : cond0_1 i) (hc2 : ¬cond0_2 i) (hc3 : ¬cond0_3 i)
    (x0 : Vec F S24x48x432 .f32) (x1 : Vec F S256x20736 .i8) (x2 : Vec F S256x256 .f32) (x3 : Vec F S2x24x256 .f32) (x4 : Vec F S1x256 .f32) (y5 : Vec F S24x48x432 .f32) (y6 : Vec F S24x1 .f32) (y7 : Vec F S24x1 .f32) (xs0 : Vec F S5x256x20736 .i8) (xs1 : Vec F S32x256 .f32) (xs2 : Vec F S24x1 .f32) (xs3 : Vec F S24x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare xs0 ∗ owns (c : Thread nD τ) arg11 fullShare xs1 ∗ owns (c : Thread nD τ) arg12 fullShare xs2 ∗ owns (c : Thread nD τ) arg13 fullShare xs3
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare (putSlot i x1 xs0) ∗ owns (c : Thread nD τ) arg11 fullShare (k0_pay5 x0 x1 xs1) ∗ owns (c : Thread nD τ) arg12 fullShare (k0_pay6 x0 xs2) ∗ owns (c : Thread nD τ) arg13 fullShare xs3) -∗ K ⟨⟩))
      ⊢ wp frame (wpE (defs₀ (F := F)) Variants.none c none) E (cc0_match_model_fused i arg2 harg2 arg3 harg3 arg4 harg4 arg5 harg5 arg6 harg6 arg7 harg7 arg8 harg8 arg9 harg9 arg10 harg10 arg11 harg11 arg12 harg12 arg13 harg13) K := by
  simp only [cc0_match_model_fused_eq_skeleton]; unfold cc0_match_model_fused_skel
  simp only [k0_part1_eq_skeleton, outer_eq]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1; obtain rfl := harg12.eq_unread hfs2; obtain rfl := harg13.eq_unread hfs3
  sl_exec (disch := first | sl_exact hc0 | sl_exact hc1 | sl_exact hc2 | sl_exact hc3)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact harg8.read_unread _
  isplitl [H7]
  · iexists _; isplitr; swap; · iexact H7
    ipureintro; exact harg9.read_unread _
  isplitl [HS0]
  · iexists _; isplitr; swap; · iexact HS0
    ipureintro; have e1 := (View.readAt_full arg3.view (harg3.unread x1) inb_S256x20736_S256x20736_0_0).trans hf1
    rw [View.read_writes_cons_put _ _ _ _ _ rfl, View.read_writes_cons_put _ _ _ _ _ rfl, View.writes_nil, hfs0]
    exact congr (congrArg (fun z w => VecWindow.put (VecWindow.put xs0 (k0_off1 i) S1x128x20736.size z) (k0_off2 i) S1x128x20736.size w) (congrArg k0_pay7 e1)) (congrArg k0_pay8 e1)
  isplitl [HS1]
  · iexists _; isplitr; swap; · iexact HS1
    ipureintro; refine (View.read_writes_full _ _ _ _ _).trans (congr (congr (congrArg k0_pay5 ?_) ?_) ?_) <;> first | exact (View.readAt_full _ _ _).trans hf0 | exact (View.readAt_full _ _ _).trans hf1 | exact (View.readAt_full _ _ _).trans hf2 | exact (View.readAt_full _ _ _).trans hf3 | exact (View.readAt_full _ _ _).trans hf4 | exact (View.readAt_full _ _ _).trans hfs1 | exact (View.readAt_full _ _ _).trans hfs2 | exact (View.readAt_full _ _ _).trans hfs3 | exact View.readCov_full _ _ _ _ _ | exact (View.readAt_unit _ _ _ rfl _).trans (congrArg (fun z => VecWindow.window z _ _ _) hfs0) | exact (View.readAt_unit _ _ _ rfl _).trans (congrArg (fun z => VecWindow.window z _ _ _) hfs1)
  isplitl [HS2]
  · iexists _; isplitr; swap; · iexact HS2
    ipureintro; refine (View.read_writes_full _ _ _ _ _).trans (congr (congrArg k0_pay6 ?_) ?_) <;> first | exact (View.readAt_full _ _ _).trans hf0 | exact (View.readAt_full _ _ _).trans hf1 | exact (View.readAt_full _ _ _).trans hf2 | exact (View.readAt_full _ _ _).trans hf3 | exact (View.readAt_full _ _ _).trans hf4 | exact (View.readAt_full _ _ _).trans hfs1 | exact (View.readAt_full _ _ _).trans hfs2 | exact (View.readAt_full _ _ _).trans hfs3 | exact View.readCov_full _ _ _ _ _ | exact (View.readAt_unit _ _ _ rfl _).trans (congrArg (fun z => VecWindow.window z _ _ _) hfs0) | exact (View.readAt_unit _ _ _ rfl _).trans (congrArg (fun z => VecWindow.window z _ _ _) hfs1)
  iexists _; isplitr; swap; · iexact HS3
  ipureintro; exact harg13.read_unread _

end Cert.Proof.KernelIdeal
-- ==== Proof.KI.RunA.lean ====
/- The first point: the sums start at zero, then the first block is added and kept. -/
module

public import proofs.«01_k».proof.Proof.KI.RunB

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first point: the sums start at zero, then the first block is added and kept. -/
theorem run_A (c : Dev nD) (i : grid0.Coords) (arg2 : Memref sig .tc .vmem S24x48x432 .f32) (harg2 : arg2.IsWhole) (arg3 : Memref sig .tc .vmem S256x20736 .i8) (harg3 : arg3.IsWhole) (arg4 : Memref sig .tc .vmem S256x256 .f32) (harg4 : arg4.IsWhole) (arg5 : Memref sig .tc .vmem S2x24x256 .f32) (harg5 : arg5.IsWhole) (arg6 : Memref sig .tc .vmem S1x256 .f32) (harg6 : arg6.IsWhole) (arg7 : Memref sig .tc .vmem S24x48x432 .f32) (harg7 : arg7.IsWhole) (arg8 : Memref sig .tc .vmem S24x1 .f32) (harg8 : arg8.IsWhole) (arg9 : Memref sig .tc .vmem S24x1 .f32) (harg9 : arg9.IsWhole) (arg10 : Memref sig .tc .vmem S5x256x20736 .i8) (harg10 : arg10.IsWhole) (arg11 : Memref sig .tc .vmem S32x256 .f32) (harg11 : arg11.IsWhole) (arg12 : Memref sig .tc .vmem S24x1 .f32) (harg12 : arg12.IsWhole) (arg13 : Memref sig .tc .vmem S24x256 .f32) (harg13 : arg13.IsWhole) (hc0 : cond0_0 i) (hc1 : cond0_1 i) (hc2 : ¬cond0_2 i) (hc3 : ¬cond0_3 i)
    (x0 : Vec F S24x48x432 .f32) (x1 : Vec F S256x20736 .i8) (x2 : Vec F S256x256 .f32) (x3 : Vec F S2x24x256 .f32) (x4 : Vec F S1x256 .f32) (y5 : Vec F S24x48x432 .f32) (y6 : Vec F S24x1 .f32) (y7 : Vec F S24x1 .f32) (xs0 : Vec F S5x256x20736 .i8) (xs1 : Vec F S32x256 .f32) (xs2 : Vec F S24x1 .f32) (xs3 : Vec F S24x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare xs0 ∗ owns (c : Thread nD τ) arg11 fullShare xs1 ∗ owns (c : Thread nD τ) arg12 fullShare xs2 ∗ owns (c : Thread nD τ) arg13 fullShare xs3
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare (putSlot i x1 xs0) ∗ owns (c : Thread nD τ) arg11 fullShare (k0_pay5 x0 x1 k0_pay1) ∗ owns (c : Thread nD τ) arg12 fullShare (k0_pay6 x0 k0_pay2) ∗ owns (c : Thread nD τ) arg13 fullShare xs3) -∗ K ⟨⟩))
      ⊢ wp frame (wpE (defs₀ (F := F)) Variants.none c none) E (cc0_match_model_fused i arg2 harg2 arg3 harg3 arg4 harg4 arg5 harg5 arg6 harg6 arg7 harg7 arg8 harg8 arg9 harg9 arg10 harg10 arg11 harg11 arg12 harg12 arg13 harg13) K := by
  simp only [cc0_match_model_fused_eq_skeleton]; unfold cc0_match_model_fused_skel
  simp only [k0_part1_eq_skeleton, outer_eq]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1; obtain rfl := harg12.eq_unread hfs2; obtain rfl := harg13.eq_unread hfs3
  sl_exec (disch := first | sl_exact hc0 | sl_exact hc1 | sl_exact hc2 | sl_exact hc3)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact harg8.read_unread _
  isplitl [H7]
  · iexists _; isplitr; swap; · iexact H7
    ipureintro; exact harg9.read_unread _
  isplitl [HS0]
  · iexists _; isplitr; swap; · iexact HS0
    ipureintro; have e1 := (View.readAt_full arg3.view (harg3.unread x1) inb_S256x20736_S256x20736_0_0).trans hf1
    rw [View.read_writes_cons_put _ _ _ _ _ rfl, View.read_writes_cons_put _ _ _ _ _ rfl, View.writes_nil, hfs0]
    exact congr (congrArg (fun z w => VecWindow.put (VecWindow.put xs0 (k0_off1 i) S1x128x20736.size z) (k0_off2 i) S1x128x20736.size w) (congrArg k0_pay7 e1)) (congrArg k0_pay8 e1)
  isplitl [HS1]
  · iexists _; isplitr; swap; · iexact HS1
    ipureintro; refine (View.read_writes_full _ _ _ _ _).trans (congr (congr (congrArg k0_pay5 ?_) ?_) ?_) <;> first | exact (View.readAt_full _ _ _).trans hf0 | exact (View.readAt_full _ _ _).trans hf1 | exact (View.readAt_full _ _ _).trans hf2 | exact (View.readAt_full _ _ _).trans hf3 | exact (View.readAt_full _ _ _).trans hf4 | exact (View.readAt_full _ _ _).trans hfs1 | exact (View.readAt_full _ _ _).trans hfs2 | exact (View.readAt_full _ _ _).trans hfs3 | exact View.readCov_full _ _ _ _ _ | exact (View.readAt_unit _ _ _ rfl _).trans (congrArg (fun z => VecWindow.window z _ _ _) hfs0) | exact (View.readAt_unit _ _ _ rfl _).trans (congrArg (fun z => VecWindow.window z _ _ _) hfs1)
  isplitl [HS2]
  · iexists _; isplitr; swap; · iexact HS2
    ipureintro; refine (View.read_writes_full _ _ _ _ _).trans (congr (congrArg k0_pay6 ?_) ?_) <;> first | exact (View.readAt_full _ _ _).trans hf0 | exact (View.readAt_full _ _ _).trans hf1 | exact (View.readAt_full _ _ _).trans hf2 | exact (View.readAt_full _ _ _).trans hf3 | exact (View.readAt_full _ _ _).trans hf4 | exact (View.readAt_full _ _ _).trans hfs1 | exact (View.readAt_full _ _ _).trans hfs2 | exact (View.readAt_full _ _ _).trans hfs3 | exact View.readCov_full _ _ _ _ _ | exact (View.readAt_unit _ _ _ rfl _).trans (congrArg (fun z => VecWindow.window z _ _ _) hfs0) | exact (View.readAt_unit _ _ _ rfl _).trans (congrArg (fun z => VecWindow.window z _ _ _) hfs1)
  iexists _; isplitr; swap; · iexact HS3
  ipureintro; exact harg13.read_unread _

end Cert.Proof.KernelIdeal
-- ==== Proof.KI.RunC.lean ====
/- The first point of the second phase: the solver runs, its scores are stored, and the first block of the result. -/
module

public import proofs.«01_k».proof.Proof.KI.RunB

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first point of the second phase: the solver runs, its scores are stored, and the first block of the result. -/
theorem run_C (c : Dev nD) (i : grid0.Coords) (arg2 : Memref sig .tc .vmem S24x48x432 .f32) (harg2 : arg2.IsWhole) (arg3 : Memref sig .tc .vmem S256x20736 .i8) (harg3 : arg3.IsWhole) (arg4 : Memref sig .tc .vmem S256x256 .f32) (harg4 : arg4.IsWhole) (arg5 : Memref sig .tc .vmem S2x24x256 .f32) (harg5 : arg5.IsWhole) (arg6 : Memref sig .tc .vmem S1x256 .f32) (harg6 : arg6.IsWhole) (arg7 : Memref sig .tc .vmem S24x48x432 .f32) (harg7 : arg7.IsWhole) (arg8 : Memref sig .tc .vmem S24x1 .f32) (harg8 : arg8.IsWhole) (arg9 : Memref sig .tc .vmem S24x1 .f32) (harg9 : arg9.IsWhole) (arg10 : Memref sig .tc .vmem S5x256x20736 .i8) (harg10 : arg10.IsWhole) (arg11 : Memref sig .tc .vmem S32x256 .f32) (harg11 : arg11.IsWhole) (arg12 : Memref sig .tc .vmem S24x1 .f32) (harg12 : arg12.IsWhole) (arg13 : Memref sig .tc .vmem S24x256 .f32) (harg13 : arg13.IsWhole) (hc0 : ¬cond0_0 i) (hc1 : ¬cond0_1 i) (hc2 : cond0_2 i) (hc3 : cond0_3 i)
    (x0 : Vec F S24x48x432 .f32) (x1 : Vec F S256x20736 .i8) (x2 : Vec F S256x256 .f32) (x3 : Vec F S2x24x256 .f32) (x4 : Vec F S1x256 .f32) (y5 : Vec F S24x48x432 .f32) (y6 : Vec F S24x1 .f32) (y7 : Vec F S24x1 .f32) (xs0 : Vec F S5x256x20736 .i8) (xs1 : Vec F S32x256 .f32) (xs2 : Vec F S24x1 .f32) (xs3 : Vec F S24x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare xs0 ∗ owns (c : Thread nD τ) arg11 fullShare xs1 ∗ owns (c : Thread nD τ) arg12 fullShare xs2 ∗ owns (c : Thread nD τ) arg13 fullShare xs3
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay19 (k0_pay16 (iterSum (simOf x2 x3 xs1 xs2))) (getSlot i hc3 xs0)) ∗ owns (c : Thread nD τ) arg8 fullShare (k0_pay17 (simOf x2 x3 xs1 xs2) (iterSum (simOf x2 x3 xs1 xs2))) ∗ owns (c : Thread nD τ) arg9 fullShare (k0_pay18 (iterSum (simOf x2 x3 xs1 xs2)) x4) ∗ owns (c : Thread nD τ) arg10 fullShare xs0 ∗ owns (c : Thread nD τ) arg11 fullShare xs1 ∗ owns (c : Thread nD τ) arg12 fullShare xs2 ∗ owns (c : Thread nD τ) arg13 fullShare (k0_pay16 (iterSum (simOf x2 x3 xs1 xs2)))) -∗ K ⟨⟩))
      ⊢ wp frame (wpE (defs₀ (F := F)) Variants.none c none) E (cc0_match_model_fused i arg2 harg2 arg3 harg3 arg4 harg4 arg5 harg5 arg6 harg6 arg7 harg7 arg8 harg8 arg9 harg9 arg10 harg10 arg11 harg11 arg12 harg12 arg13 harg13) K := by
  simp only [cc0_match_model_fused_eq_skeleton]; unfold cc0_match_model_fused_skel
  simp only [k0_part1_eq_skeleton, outer_eq]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1; obtain rfl := harg12.eq_unread hfs2; obtain rfl := harg13.eq_unread hfs3
  sl_exec (disch := first | sl_exact hc0 | sl_exact hc1 | sl_exact hc2 | sl_exact hc3)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; have er : run_C.sl.r c arg4 harg4 arg5 harg5 arg11 harg11 arg12 harg12 x2 x3 xs1 xs2 = simOf x2 x3 xs1 xs2 := by
      unfold run_C.sl.r simOf
      refine congr (congr (congr (congr (congrArg k0_pay20 ?_) ?_) ?_) ?_) ?_ <;> first | exact (View.readAt_full _ _ _).trans hf0 | exact (View.readAt_full _ _ _).trans hf1 | exact (View.readAt_full _ _ _).trans hf2 | exact (View.readAt_full _ _ _).trans hf3 | exact (View.readAt_full _ _ _).trans hf4 | exact (View.readAt_full _ _ _).trans hfs1 | exact (View.readAt_full _ _ _).trans hfs2 | exact (View.readAt_full _ _ _).trans hfs3 | exact View.readCov_full _ _ _ _ _ | exact (View.readAt_unit _ _ _ rfl _).trans (congrArg (fun z => VecWindow.window z _ _ _) hfs0) | exact (View.readAt_unit _ _ _ rfl _).trans (congrArg (fun z => VecWindow.window z _ _ _) hfs1)
    refine (View.read_writes_full _ _ _ _ _).trans (congr (congrArg k0_pay19 ?_) ?_)
    · unfold run_C.sl.v16 run_C.sl.HS3_1; refine (View.readCov_full _ _ _ _ _).trans ?_; rw [er]; rfl
    · first | exact (View.readAt_full _ _ _).trans hf0 | exact (View.readAt_full _ _ _).trans hf1 | exact (View.readAt_full _ _ _).trans hf2 | exact (View.readAt_full _ _ _).trans hf3 | exact (View.readAt_full _ _ _).trans hf4 | exact (View.readAt_full _ _ _).trans hfs1 | exact (View.readAt_full _ _ _).trans hfs2 | exact (View.readAt_full _ _ _).trans hfs3 | exact View.readCov_full _ _ _ _ _ | exact (View.readAt_unit _ _ _ rfl _).trans (congrArg (fun z => VecWindow.window z _ _ _) hfs0) | exact (View.readAt_unit _ _ _ rfl _).trans (congrArg (fun z => VecWindow.window z _ _ _) hfs1)
  isplitl [H6]
  · iexists _; isplitr; swap; · iexact H6
    ipureintro; have er : run_C.sl.r c arg4 harg4 arg5 harg5 arg11 harg11 arg12 harg12 x2 x3 xs1 xs2 = simOf x2 x3 xs1 xs2 := by
      unfold run_C.sl.r simOf
      refine congr (congr (congr (congr (congrArg k0_pay20 ?_) ?_) ?_) ?_) ?_ <;> first | exact (View.readAt_full _ _ _).trans hf0 | exact (View.readAt_full _ _ _).trans hf1 | exact (View.readAt_full _ _ _).trans hf2 | exact (View.readAt_full _ _ _).trans hf3 | exact (View.readAt_full _ _ _).trans hf4 | exact (View.readAt_full _ _ _).trans hfs1 | exact (View.readAt_full _ _ _).trans hfs2 | exact (View.readAt_full _ _ _).trans hfs3 | exact View.readCov_full _ _ _ _ _ | exact (View.readAt_unit _ _ _ rfl _).trans (congrArg (fun z => VecWindow.window z _ _ _) hfs0) | exact (View.readAt_unit _ _ _ rfl _).trans (congrArg (fun z => VecWindow.window z _ _ _) hfs1)
    rw [View.read_writes_full, er]; rfl
  isplitl [H7]
  · iexists _; isplitr; swap; · iexact H7
    ipureintro; have er : run_C.sl.r c arg4 harg4 arg5 harg5 arg11 harg11 arg12 harg12 x2 x3 xs1 xs2 = simOf x2 x3 xs1 xs2 := by
      unfold run_C.sl.r simOf
      refine congr (congr (congr (congr (congrArg k0_pay20 ?_) ?_) ?_) ?_) ?_ <;> first | exact (View.readAt_full _ _ _).trans hf0 | exact (View.readAt_full _ _ _).trans hf1 | exact (View.readAt_full _ _ _).trans hf2 | exact (View.readAt_full _ _ _).trans hf3 | exact (View.readAt_full _ _ _).trans hf4 | exact (View.readAt_full _ _ _).trans hfs1 | exact (View.readAt_full _ _ _).trans hfs2 | exact (View.readAt_full _ _ _).trans hfs3 | exact View.readCov_full _ _ _ _ _ | exact (View.readAt_unit _ _ _ rfl _).trans (congrArg (fun z => VecWindow.window z _ _ _) hfs0) | exact (View.readAt_unit _ _ _ rfl _).trans (congrArg (fun z => VecWindow.window z _ _ _) hfs1)
    rw [View.read_writes_full, er]
    exact congrArg (k0_pay18 _) ((View.readAt_full _ _ _).trans hf4)
  isplitl [HS0]
  · iexists _; isplitr; swap; · iexact HS0
    ipureintro; exact harg10.read_unread _
  isplitl [HS1]
  · iexists _; isplitr; swap; · iexact HS1
    ipureintro; exact harg11.read_unread _
  isplitl [HS2]
  · iexists _; isplitr; swap; · iexact HS2
    ipureintro; exact harg12.read_unread _
  iexists _; isplitr; swap; · iexact HS3
  ipureintro; have er : run_C.sl.r c arg4 harg4 arg5 harg5 arg11 harg11 arg12 harg12 x2 x3 xs1 xs2 = simOf x2 x3 xs1 xs2 := by
    unfold run_C.sl.r simOf
    refine congr (congr (congr (congr (congrArg k0_pay20 ?_) ?_) ?_) ?_) ?_ <;> first | exact (View.readAt_full _ _ _).trans hf0 | exact (View.readAt_full _ _ _).trans hf1 | exact (View.readAt_full _ _ _).trans hf2 | exact (View.readAt_full _ _ _).trans hf3 | exact (View.readAt_full _ _ _).trans hf4 | exact (View.readAt_full _ _ _).trans hfs1 | exact (View.readAt_full _ _ _).trans hfs2 | exact (View.readAt_full _ _ _).trans hfs3 | exact View.readCov_full _ _ _ _ _ | exact (View.readAt_unit _ _ _ rfl _).trans (congrArg (fun z => VecWindow.window z _ _ _) hfs0) | exact (View.readAt_unit _ _ _ rfl _).trans (congrArg (fun z => VecWindow.window z _ _ _) hfs1)
  unfold run_C.sl.HS3_1; rw [View.read_writes_full, er]; rfl

end Cert.Proof.KernelIdeal
-- ==== Proof.KI.RunD.lean ====
/- A later point of the second phase: one more block of the result. -/
module

public import proofs.«01_k».proof.Proof.KI.RunB

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A later point of the second phase: one more block of the result. -/
theorem run_D (c : Dev nD) (i : grid0.Coords) (arg2 : Memref sig .tc .vmem S24x48x432 .f32) (harg2 : arg2.IsWhole) (arg3 : Memref sig .tc .vmem S256x20736 .i8) (harg3 : arg3.IsWhole) (arg4 : Memref sig .tc .vmem S256x256 .f32) (harg4 : arg4.IsWhole) (arg5 : Memref sig .tc .vmem S2x24x256 .f32) (harg5 : arg5.IsWhole) (arg6 : Memref sig .tc .vmem S1x256 .f32) (harg6 : arg6.IsWhole) (arg7 : Memref sig .tc .vmem S24x48x432 .f32) (harg7 : arg7.IsWhole) (arg8 : Memref sig .tc .vmem S24x1 .f32) (harg8 : arg8.IsWhole) (arg9 : Memref sig .tc .vmem S24x1 .f32) (harg9 : arg9.IsWhole) (arg10 : Memref sig .tc .vmem S5x256x20736 .i8) (harg10 : arg10.IsWhole) (arg11 : Memref sig .tc .vmem S32x256 .f32) (harg11 : arg11.IsWhole) (arg12 : Memref sig .tc .vmem S24x1 .f32) (harg12 : arg12.IsWhole) (arg13 : Memref sig .tc .vmem S24x256 .f32) (harg13 : arg13.IsWhole) (hc0 : ¬cond0_0 i) (hc1 : ¬cond0_1 i) (hc2 : ¬cond0_2 i) (hc3 : cond0_3 i)
    (x0 : Vec F S24x48x432 .f32) (x1 : Vec F S256x20736 .i8) (x2 : Vec F S256x256 .f32) (x3 : Vec F S2x24x256 .f32) (x4 : Vec F S1x256 .f32) (y5 : Vec F S24x48x432 .f32) (y6 : Vec F S24x1 .f32) (y7 : Vec F S24x1 .f32) (xs0 : Vec F S5x256x20736 .i8) (xs1 : Vec F S32x256 .f32) (xs2 : Vec F S24x1 .f32) (xs3 : Vec F S24x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare xs0 ∗ owns (c : Thread nD τ) arg11 fullShare xs1 ∗ owns (c : Thread nD τ) arg12 fullShare xs2 ∗ owns (c : Thread nD τ) arg13 fullShare xs3
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay19 xs3 (getSlot i hc3 xs0)) ∗ owns (c : Thread nD τ) arg8 fullShare y6 ∗ owns (c : Thread nD τ) arg9 fullShare y7 ∗ owns (c : Thread nD τ) arg10 fullShare xs0 ∗ owns (c : Thread nD τ) arg11 fullShare xs1 ∗ owns (c : Thread nD τ) arg12 fullShare xs2 ∗ owns (c : Thread nD τ) arg13 fullShare xs3) -∗ K ⟨⟩))
      ⊢ wp frame (wpE (defs₀ (F := F)) Variants.none c none) E (cc0_match_model_fused i arg2 harg2 arg3 harg3 arg4 harg4 arg5 harg5 arg6 harg6 arg7 harg7 arg8 harg8 arg9 harg9 arg10 harg10 arg11 harg11 arg12 harg12 arg13 harg13) K := by
  simp only [cc0_match_model_fused_eq_skeleton]; unfold cc0_match_model_fused_skel
  simp only [k0_part1_eq_skeleton, outer_eq]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1; obtain rfl := harg12.eq_unread hfs2; obtain rfl := harg13.eq_unread hfs3
  sl_exec (disch := first | sl_exact hc0 | sl_exact hc1 | sl_exact hc2 | sl_exact hc3)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; refine (View.read_writes_full _ _ _ _ _).trans (congr (congrArg k0_pay19 ?_) ?_) <;> first | exact (View.readAt_full _ _ _).trans hf0 | exact (View.readAt_full _ _ _).trans hf1 | exact (View.readAt_full _ _ _).trans hf2 | exact (View.readAt_full _ _ _).trans hf3 | exact (View.readAt_full _ _ _).trans hf4 | exact (View.readAt_full _ _ _).trans hfs1 | exact (View.readAt_full _ _ _).trans hfs2 | exact (View.readAt_full _ _ _).trans hfs3 | exact View.readCov_full _ _ _ _ _ | exact (View.readAt_unit _ _ _ rfl _).trans (congrArg (fun z => VecWindow.window z _ _ _) hfs0) | exact (View.readAt_unit _ _ _ rfl _).trans (congrArg (fun z => VecWindow.window z _ _ _) hfs1)
  isplitl [H6]
  · iexists _; isplitr; swap; · iexact H6
    ipureintro; exact harg8.read_unread _
  isplitl [H7]
  · iexists _; isplitr; swap; · iexact H7
    ipureintro; exact harg9.read_unread _
  isplitl [HS0]
  · iexists _; isplitr; swap; · iexact HS0
    ipureintro; exact harg10.read_unread _
  isplitl [HS1]
  · iexists _; isplitr; swap; · iexact HS1
    ipureintro; exact harg11.read_unread _
  isplitl [HS2]
  · iexists _; isplitr; swap; · iexact HS2
    ipureintro; exact harg12.read_unread _
  iexists _; isplitr; swap; · iexact HS3
  ipureintro; exact harg13.read_unread _

end Cert.Proof.KernelIdeal
-- ==== Proof.KI.Slots.lean ====
/- The kept copy of the masks, entry by entry: what a point of the first phase puts in, and what a point of the second phase finds. -/
module

public import proofs.«01_k».proof.Proof.KI.RunB
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off1_eq : ∀ t : Fin cfg0.N, k0_off1 (grid0.coords t) = ![t.val % 5, 0, 0] :=
  (by decide +kernel : ∀ t : Fin grid0.N, k0_off1 (grid0.coords t) = ![t.val % 5, 0, 0])
theorem off2_eq : ∀ t : Fin cfg0.N, k0_off2 (grid0.coords t) = ![t.val % 5, 128, 0] :=
  (by decide +kernel : ∀ t : Fin grid0.N, k0_off2 (grid0.coords t) = ![t.val % 5, 128, 0])
theorem off3_eq : ∀ t : Fin cfg0.N, k0_off3 (grid0.coords t) = ![t.val % 5, 0, 0] :=
  (by decide +kernel : ∀ t : Fin grid0.N, k0_off3 (grid0.coords t) = ![t.val % 5, 0, 0])

/-- A block of rows as a slot of the kept copy. -/
def slotOf (x1 : Vec F S256x20736 .i8) : Vec F S1x256x20736 .i8 := fun y => x1 (ix2 (y 1) (y 2))

theorem pay7_apply (x1 : Vec F S256x20736 .i8) (y : S1x128x20736.Idx) :
    k0_pay7 x1 y = x1 (ix2 ⟨(y 1).val, by have := (y 1).isLt; change _ < 128 at this; omega⟩ (y 2)) := by
  pointwise [k0_pay7, k0_pay4]

theorem pay8_apply (x1 : Vec F S256x20736 .i8) (y : S1x128x20736.Idx) :
    k0_pay8 x1 y = x1 (ix2 ⟨128 + (y 1).val, by have := (y 1).isLt; change _ < 128 at this; omega⟩ (y 2)) := by
  pointwise [k0_pay8, k0_pay4]

/-- After the put: the point's slot holds the block's rows, the other slots what they held. -/
theorem putSlot_apply (t : Fin cfg0.N) (x1 : Vec F S256x20736 .i8) (d : Vec F S5x256x20736 .i8) (y : S5x256x20736.Idx) :
    putSlot (grid0.coords t) x1 d y = if (y 0).val = t.val % 5 then x1 (ix2 (y 1) (y 2)) else d y := by
  have h1 : (y 1).val < 256 := (y 1).isLt
  have h2 : (y 2).val < 20736 := (y 2).isLt
  have hk (q : ℕ) (hq : q = 0 ∨ q = 128) :
      (∀ a : Fin S5x256x20736.rank, (![t.val % 5, q, 0] : Fin 3 → ℕ) a ≤ (y a).val ∧ (y a).val < (![t.val % 5, q, 0] : Fin 3 → ℕ) a + S1x128x20736.size a)
        ↔ (y 0).val = t.val % 5 ∧ q ≤ (y 1).val ∧ (y 1).val < q + 128 := by
    constructor
    · intro h
      have g0 : t.val % 5 ≤ (y 0).val ∧ (y 0).val < t.val % 5 + 1 := h 0
      have g1 : q ≤ (y 1).val ∧ (y 1).val < q + 128 := h 1
      omega
    · intro h a
      match a with
      | ⟨0, _⟩ => show t.val % 5 ≤ (y 0).val ∧ (y 0).val < t.val % 5 + 1; omega
      | ⟨1, _⟩ => show q ≤ (y 1).val ∧ (y 1).val < q + 128; omega
      | ⟨2, _⟩ => show 0 ≤ (y 2).val ∧ (y 2).val < 0 + 20736; omega
  have k0 := hk 0 (.inl rfl)
  have k1 := hk 128 (.inr rfl)
  unfold putSlot
  rw [off1_eq, off2_eq]
  unfold VecWindow.put
  split_ifs with ha hb hc hd he
  · refine (pay8_apply _ _).trans (congrArg x1 (congr (congrArg ix2 (Fin.ext ?_)) (Fin.ext ?_)))
    · show 128 + ((y 1).val - 128) = (y 1).val
      have := (k1.mp ha).2; omega
    · show (y 2).val - 0 = (y 2).val
      omega
  · exact absurd (k1.mp ha).1 hb
  · refine (pay7_apply _ _).trans (congrArg x1 (congr (congrArg ix2 (Fin.ext ?_)) (Fin.ext ?_)))
    · show (y 1).val - 0 = (y 1).val
      omega
    · show (y 2).val - 0 = (y 2).val
      omega
  · exact absurd (k0.mp hc).1 hd
  · exfalso
    by_cases h3 : (y 1).val < 128
    · exact hc (k0.mpr ⟨he, by omega, by omega⟩)
    · exact ha (k1.mpr ⟨he, by omega, by omega⟩)
  · rfl

theorem getSlot_apply (t : Fin cfg0.N) (h : k0_cond4 (grid0.coords t) = 1#1) (d : Vec F S5x256x20736 .i8) (x1 : Vec F S256x20736 .i8)
    (hd : ∀ y : S5x256x20736.Idx, (y 0).val = t.val % 5 → d y = x1 (ix2 (y 1) (y 2))) :
    getSlot (grid0.coords t) h d = slotOf x1 := by
  funext y
  unfold getSlot VecWindow.window slotOf
  have e := off3_eq t
  have e0 : k0_off3 (grid0.coords t) 0 = t.val % 5 := by rw [e]; rfl
  have e1 : k0_off3 (grid0.coords t) 1 = 0 := by rw [e]; rfl
  have e2 : k0_off3 (grid0.coords t) 2 = 0 := by rw [e]; rfl
  have hy0 : (y 0).val < 1 := (y 0).isLt
  rw [hd]
  · refine congrArg x1 (congr (congrArg ix2 (Fin.ext ?_)) (Fin.ext ?_))
    · show k0_off3 (grid0.coords t) 1 + 1 * (y 1).val = (y 1).val
      omega
    · show k0_off3 (grid0.coords t) 2 + 1 * (y 2).val = (y 2).val
      omega
  · show k0_off3 (grid0.coords t) 0 + 1 * (y 0).val = t.val % 5
    omega

end Cert.Proof.KernelIdeal
-- ==== Proof.KI.Frame.lean ====
/- The run of the kernel, point by point: what the kept buffers and the outputs hold, the body at every point, the launch and the frame. -/
module

public import proofs.«01_k».proof.Proof.KI.RunA
public import proofs.«01_k».proof.Proof.KI.RunC
public import proofs.«01_k».proof.Proof.KI.RunD
public import proofs.«01_k».proof.Proof.KI.Slots
public import Idealize.ShloMosaic.Lib.Pipeline.FrameBody
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- The grid point of a number. -/
def pt (n : ℕ) : Fin cfg0.N := ⟨n % 10, lt_of_lt_of_eq (Nat.mod_lt _ (by decide)) N_0.symm⟩

theorem pt_val (t : Fin cfg0.N) : pt t.val = t := by
  have : t.val < 10 := lt_of_lt_of_eq t.isLt N_0
  exact Fin.ext (Nat.mod_eq_of_lt this)

theorem pt_of (n : ℕ) (t : Fin cfg0.N) (h : t.val = n) : t = pt n := by
  subst h; exact (pt_val t).symm

/-- The accumulated products after so many points of the first phase. -/
def interAt (c : Dev nD) : ℕ → Vec F S32x256 .f32
  | 0 => k0_pay1
  | n + 1 => k0_pay5 (iblk m c 0 (pt n)) (iblk m c 1 (pt n)) (interAt c n)

/-- The accumulated row sums after so many points of the first phase. -/
def asumAt (c : Dev nD) : ℕ → Vec F S24x1 .f32
  | 0 => k0_pay2
  | n + 1 => k0_pay6 (iblk m c 0 (pt n)) (asumAt c n)

/-- The similarity matrix the second phase starts from. -/
def simM (c : Dev nD) : FVec F S24x256 .f32 :=
  simOf (iblk m c 2 (pt 5)) (iblk m c 3 (pt 5)) (interAt m c 5) (asumAt m c 5)

/-- The kept solution. -/
def binM (c : Dev nD) : Vec F S24x256 .f32 := k0_pay16 (iterSum (simM m c))

/-- The first score. -/
def msM (c : Dev nD) : Vec F S24x1 .f32 := k0_pay17 (simM m c) (iterSum (simM m c))

/-- The second score. -/
def dsM (c : Dev nD) : Vec F S24x1 .f32 := k0_pay18 (iterSum (simM m c)) (iblk m c 4 (pt 5))

/-- One block of the result. -/
def outM (c : Dev nD) (n : ℕ) : Vec F S24x48x432 .f32 := k0_pay19 (binM m c) (slotOf (iblk m c 1 (pt n)))

/-- The first slots of the kept copy hold the masks' blocks. -/
def Kept (c : Dev nD) (n : ℕ) (d : Vec F S5x256x20736 .i8) : Prop :=
  ∀ y : S5x256x20736.Idx, (y 0).val < n → d y = slotOf (iblk m c 1 (pt (y 0).val)) (ix3 0 (y 1) (y 2))

theorem Kept_put (c : Dev nD) (t : Fin cfg0.N) (h : t.val < 5) (d : Vec F S5x256x20736 .i8) (hd : Kept m c t.val d) :
    Kept m c (t.val + 1) (putSlot (grid0.coords t) (iblk m c 1 t) d) := by
  intro y hy
  rw [putSlot_apply]
  by_cases e : (y 0).val = t.val % 5
  · rw [if_pos e]
    have e' : (y 0).val = t.val := by omega
    rw [e', pt_val]; rfl
  · rw [if_neg e]; exact hd y (by omega)

theorem Kept_get (c : Dev nD) (t : Fin cfg0.N) (n : ℕ) (hn : 5 ≤ n) (h : k0_cond4 (grid0.coords t) = 1#1) (d : Vec F S5x256x20736 .i8) (hd : Kept m c n d) :
    getSlot (grid0.coords t) h d = slotOf (iblk m c 1 (pt (t.val % 5))) := by
  refine getSlot_apply t h d _ fun y hy => ?_
  rw [hd y (by omega), hy]; rfl

theorem Kept_all (c : Dev nD) (n n' : ℕ) (hn : 5 ≤ n) (d : Vec F S5x256x20736 .i8) (hd : Kept m c n d) : Kept m c n' d :=
  fun y _ => hd y (by have := (y 0).isLt; change (y 0).val < 5 at this; omega)

/-- Before a point that is not the first: the sums of the points so far, the blocks kept so far, and from the second
    phase's first point on the solution. -/
def PhiP (c : Dev nD) (n : ℕ) : sProp 𝕄 :=
  iprop(iprop((∃ d, ⌜Kept m c n d⌝ ∗ owns (c : Thread nD τ) scM0_0 fullShare d) ∗ owns (c : Thread nD τ) scM0_1 fullShare (interAt m c (min n 5)) ∗ owns (c : Thread nD τ) scM0_2 fullShare (asumAt m c (min n 5)) ∗ (∃ d, ⌜6 ≤ n → d = binM m c⌝ ∗ owns (c : Thread nD τ) scM0_3 fullShare d)) ∗ (∃ r, prngReg c r))

/-- The invariant before a position. -/
def PhiS (c : Dev nD) : (n : ℕ) → n ≤ cfg0.N → sProp 𝕄
  | 0, _ => Pipeline.ΦA spec0 c
  | n + 1, _ => PhiP m c (n + 1)

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) : PhiS m c (n + 1) hn = PhiP m c (n + 1) := rfl

theorem PhiS_pos (c : Dev nD) (n : ℕ) (h : n ≤ cfg0.N) (hz : n ≠ 0) : PhiS m c n h = PhiP m c n := by
  cases n with
  | zero => exact absurd rfl hz
  | succ n => rfl

/-- The proof data: the arrays as the region finds them, each input's buffer at its block, the outputs at what is stored,
    the kept buffers in the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outM m c (t.val % 5)
    | ⟨6, _⟩ => msM m c
    | ⟨7, _⟩ => dsM m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outM m c (t.val % 5) := by dsimp only [dats]
theorem after0_6 (c : Dev nD) (t : Fin cfg0.N) : (dats m 0 c).after 6 t = msM m c := by dsimp only [dats]
theorem after0_7 (c : Dev nD) (t : Fin cfg0.N) : (dats m 0 c).after 7 t = dsM m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem fresh6 : ∀ t : Fin cfg0.N, cfg0.fresh 6 t.val = (decide (t.val < 6) || decide (t.val = 10)) :=
  fun t => Pipeline.Cfg.fresh_tab cfg0 6 (fun n => decide (n < 6) || decide (n = 10)) rfl
    (by decide +kernel) t.val (Nat.le_of_lt t.isLt)

/-- At the last point the score's buffer still holds what was stored. -/
theorem before0_6_last (c : Dev nD) (t : Fin cfg0.N) (h : 6 ≤ t.val) (d) : (dats m 0 c).before 6 t d = msM m c := by
  rw [Dat.before_out_traj (dats m 0 c) 6 rfl (fun _ _ => rfl) (fun t _ _ _ => by rw [after0_6, after0_6]) t.val t rfl d,
    fresh6 t, if_neg (by have : t.val < 10 := lt_of_lt_of_eq t.isLt N_0; simp; omega), after0_6]

theorem fresh7 : ∀ t : Fin cfg0.N, cfg0.fresh 7 t.val = (decide (t.val < 6) || decide (t.val = 10)) :=
  fun t => Pipeline.Cfg.fresh_tab cfg0 7 (fun n => decide (n < 6) || decide (n = 10)) rfl
    (by decide +kernel) t.val (Nat.le_of_lt t.isLt)

/-- At the last point the score's buffer still holds what was stored. -/
theorem before0_7_last (c : Dev nD) (t : Fin cfg0.N) (h : 6 ≤ t.val) (d) : (dats m 0 c).before 7 t d = dsM m c := by
  rw [Dat.before_out_traj (dats m 0 c) 7 rfl (fun _ _ => rfl) (fun t _ _ _ => by rw [after0_7, after0_7]) t.val t rfl d,
    fresh7 t, if_neg (by have : t.val < 10 := lt_of_lt_of_eq t.isLt N_0; simp; omega), after0_7]

/-! ## The body at every point -/

/-- What the body is called with at a point, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What the body returns at a point. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The first point. -/
theorem sound_A (c : Dev nD) (t : Fin cfg0.N) (h : t.val = 0) :
    bodyPre m c t ⊢ wp frame (wpE (defs₀ (F := F)) Variants.none c none) Set.univ (bodyAt0 t) (fun _ => bodyPost m c t) := by
  have hN : t.val < 10 := lt_of_lt_of_eq t.isLt N_0
  have c0 : cond0_0 (grid0.coords t) := by rw [hcond0_0]; omega
  have c1 : cond0_1 (grid0.coords t) := by rw [hcond0_1]; omega
  have c2 : ¬cond0_2 (grid0.coords t) := by rw [hcond0_2]; omega
  have c3 : ¬cond0_3 (grid0.coords t) := by rw [hcond0_3]; omega
  have et := pt_of 0 t h
  have eI : interAt m c (min (t.val + 1) 5) = k0_pay5 (iblk m c 0 t) (iblk m c 1 t) k0_pay1 := by rw [et]; rfl
  have eA : asumAt m c (min (t.val + 1) 5) = k0_pay6 (iblk m c 0 t) k0_pay2 := by rw [et]; rfl
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [Dat.leavesExact_idle (dats m 0 c) 5 t (idle5 t (by omega)) (noFlush5 t (by omega))]
  rw [Dat.leavesExact_idle (dats m 0 c) 6 t (idle6 t (by omega)) (noFlush6 t (by omega))]
  rw [Dat.leavesExact_idle (dats m 0 c) 7 t (idle7 t (by omega)) (noFlush7 t (by omega))]
  rw [PhiS_castSucc m c t, PhiS_zero m c _ _ (by omega), PhiA0_eq]
  unfold PhiP
  iintro ⟨⟨⟨⟨%e0, HS0⟩, ⟨%e1, HS1⟩, ⟨%e2, HS2⟩, ⟨%e3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_A c (grid0.coords t) _ _ _ _ _ _ _ _ _ _ _ _ _ _ _ _ _ _ _ _ _ _ _ _ c0 c1 c2 c3 _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  iintro ⟨H0, H1, H2, H3, H4, H5, H6, H7, HS0, HS1, HS2, HS3⟩
  rw [eI, eA]
  isplitl [HS0 HS1 HS2 HS3 Hg]
  · isplitl [HS0 HS1 HS2 HS3]
    · isplitl [HS0]
      · iexists _; isplitr; swap; · iexact HS0
        ipureintro; exact Kept_put m c t (by omega) _ (fun y hy => absurd hy (by omega))
      isplitl [HS1]; · iexact HS1
      isplitl [HS2]; · iexact HS2
      iexists _; isplitr; swap; · iexact HS3
      ipureintro; intro h6; omega
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iexists _; iexact H7

set_option maxHeartbeats 4000000 in
/-- A later point of the first phase. -/
theorem sound_B (c : Dev nD) (t : Fin cfg0.N) (h0 : t.val ≠ 0) (h : t.val < 5) :
    bodyPre m c t ⊢ wp frame (wpE (defs₀ (F := F)) Variants.none c none) Set.univ (bodyAt0 t) (fun _ => bodyPost m c t) := by
  have hN : t.val < 10 := lt_of_lt_of_eq t.isLt N_0
  have c0 : ¬cond0_0 (grid0.coords t) := by rw [hcond0_0]; omega
  have c1 : cond0_1 (grid0.coords t) := by rw [hcond0_1]; omega
  have c2 : ¬cond0_2 (grid0.coords t) := by rw [hcond0_2]; omega
  have c3 : ¬cond0_3 (grid0.coords t) := by rw [hcond0_3]; omega
  have eI : interAt m c (min (t.val + 1) 5) = k0_pay5 (iblk m c 0 t) (iblk m c 1 t) (interAt m c (min t.val 5)) := by
    rw [Nat.min_eq_left (by omega), Nat.min_eq_left (by omega), interAt, pt_val]
  have eA : asumAt m c (min (t.val + 1) 5) = k0_pay6 (iblk m c 0 t) (asumAt m c (min t.val 5)) := by
    rw [Nat.min_eq_left (by omega), Nat.min_eq_left (by omega), asumAt, pt_val]
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [Dat.leavesExact_idle (dats m 0 c) 5 t (idle5 t (by omega)) (noFlush5 t (by omega))]
  rw [Dat.leavesExact_idle (dats m 0 c) 6 t (idle6 t (by omega)) (noFlush6 t (by omega))]
  rw [Dat.leavesExact_idle (dats m 0 c) 7 t (idle7 t (by omega)) (noFlush7 t (by omega))]
  rw [PhiS_castSucc m c t, PhiS_pos m c _ _ (by omega)]
  unfold PhiP
  iintro ⟨⟨⟨⟨%e0, %hk, HS0⟩, HS1, HS2, ⟨%e3, %hb, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_B c (grid0.coords t) _ _ _ _ _ _ _ _ _ _ _ _ _ _ _ _ _ _ _ _ _ _ _ _ c0 c1 c2 c3 _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  iintro ⟨H0, H1, H2, H3, H4, H5, H6, H7, HS0, HS1, HS2, HS3⟩
  rw [eI, eA]
  isplitl [HS0 HS1 HS2 HS3 Hg]
  · isplitl [HS0 HS1 HS2 HS3]
    · isplitl [HS0]
      · iexists _; isplitr; swap; · iexact HS0
        ipureintro; exact Kept_put m c t (by omega) _ hk
      isplitl [HS1]; · iexact HS1
      isplitl [HS2]; · iexact HS2
      iexists _; isplitr; swap; · iexact HS3
      ipureintro; intro h6; omega
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iexists _; iexact H7

set_option maxHeartbeats 4000000 in
/-- The first point of the second phase. -/
theorem sound_C (c : Dev nD) (t : Fin cfg0.N) (h : t.val = 5) :
    bodyPre m c t ⊢ wp frame (wpE (defs₀ (F := F)) Variants.none c none) Set.univ (bodyAt0 t) (fun _ => bodyPost m c t) := by
  have hN : t.val < 10 := lt_of_lt_of_eq t.isLt N_0
  have c0 : ¬cond0_0 (grid0.coords t) := by rw [hcond0_0]; omega
  have c1 : ¬cond0_1 (grid0.coords t) := by rw [hcond0_1]; omega
  have c2 : cond0_2 (grid0.coords t) := by rw [hcond0_2]; omega
  have c3 : cond0_3 (grid0.coords t) := by rw [hcond0_3]; omega
  have eM : min (t.val + 1) 5 = min t.val 5 := by omega
  have e5 : min t.val 5 = 5 := by omega
  have et := pt_of 5 t h
  have eS : simOf (iblk m c 2 t) (iblk m c 3 t) (interAt m c (min t.val 5)) (asumAt m c (min t.val 5)) = simM m c := by
    rw [e5, et]; rfl
  have e4 : iblk m c 4 t = iblk m c 4 (pt 5) := by rw [← et]
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [live5 t (by omega)], after0_5]
  rw [show (dats m 0 c).leavesExact 6 t = owns (c : Thread nD τ) (ms0_6 t) fullShare ((dats m 0 c).after 6 t) from by
    unfold Dat.leavesExact; rw [live6 t (by omega)], after0_6]
  rw [show (dats m 0 c).leavesExact 7 t = owns (c : Thread nD τ) (ms0_7 t) fullShare ((dats m 0 c).after 7 t) from by
    unfold Dat.leavesExact; rw [live7 t (by omega)], after0_7]
  rw [PhiS_castSucc m c t, PhiS_pos m c _ _ (by omega)]
  unfold PhiP
  iintro ⟨⟨⟨⟨%e0, %hk, HS0⟩, HS1, HS2, ⟨%e3, %hb, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_C c (grid0.coords t) _ _ _ _ _ _ _ _ _ _ _ _ _ _ _ _ _ _ _ _ _ _ _ _ c0 c1 c2 c3 _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  iintro ⟨H0, H1, H2, H3, H4, H5, H6, H7, HS0, HS1, HS2, HS3⟩
  rw [eM, Kept_get m c t _ (by omega) c3 _ hk, eS, e4]
  isplitl [HS0 HS1 HS2 HS3 Hg]
  · isplitl [HS0 HS1 HS2 HS3]
    · isplitl [HS0]
      · iexists _; isplitr; swap; · iexact HS0
        ipureintro; exact Kept_all m c _ _ (by omega) _ hk
      isplitl [HS1]; · iexact HS1
      isplitl [HS2]; · iexact HS2
      iexists _; isplitr; swap; · iexact HS3
      ipureintro; intro _; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 4000000 in
/-- A later point of the second phase, not the last. -/
theorem sound_D (c : Dev nD) (t : Fin cfg0.N) (h : 5 < t.val) (h9 : t.val ≠ 9) :
    bodyPre m c t ⊢ wp frame (wpE (defs₀ (F := F)) Variants.none c none) Set.univ (bodyAt0 t) (fun _ => bodyPost m c t) := by
  have hN : t.val < 10 := lt_of_lt_of_eq t.isLt N_0
  have c0 : ¬cond0_0 (grid0.coords t) := by rw [hcond0_0]; omega
  have c1 : ¬cond0_1 (grid0.coords t) := by rw [hcond0_1]; omega
  have c2 : ¬cond0_2 (grid0.coords t) := by rw [hcond0_2]; omega
  have c3 : cond0_3 (grid0.coords t) := by rw [hcond0_3]; omega
  have eM : min (t.val + 1) 5 = min t.val 5 := by omega
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [live5 t (by omega)], after0_5]
  rw [Dat.leavesExact_idle (dats m 0 c) 6 t (idle6 t (by omega)) (noFlush6 t (by omega))]
  rw [Dat.leavesExact_idle (dats m 0 c) 7 t (idle7 t (by omega)) (noFlush7 t (by omega))]
  rw [PhiS_castSucc m c t, PhiS_pos m c _ _ (by omega)]
  unfold PhiP
  iintro ⟨⟨⟨⟨%e0, %hk, HS0⟩, HS1, HS2, ⟨%e3, %hb, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_D c (grid0.coords t) _ _ _ _ _ _ _ _ _ _ _ _ _ _ _ _ _ _ _ _ _ _ _ _ c0 c1 c2 c3 _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  iintro ⟨H0, H1, H2, H3, H4, H5, H6, H7, HS0, HS1, HS2, HS3⟩
  rw [eM, Kept_get m c t _ (by omega) c3 _ hk, hb (by omega)]
  isplitl [HS0 HS1 HS2 HS3 Hg]
  · isplitl [HS0 HS1 HS2 HS3]
    · isplitl [HS0]
      · iexists _; isplitr; swap; · iexact HS0
        ipureintro; exact Kept_all m c _ _ (by omega) _ hk
      isplitl [HS1]; · iexact HS1
      isplitl [HS2]; · iexact HS2
      iexists _; isplitr; swap; · iexact HS3
      ipureintro; intro _; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

set_option maxHeartbeats 4000000 in
/-- The last point. -/
theorem sound_E (c : Dev nD) (t : Fin cfg0.N) (h : t.val = 9) :
    bodyPre m c t ⊢ wp frame (wpE (defs₀ (F := F)) Variants.none c none) Set.univ (bodyAt0 t) (fun _ => bodyPost m c t) := by
  have hN : t.val < 10 := lt_of_lt_of_eq t.isLt N_0
  have c0 : ¬cond0_0 (grid0.coords t) := by rw [hcond0_0]; omega
  have c1 : ¬cond0_1 (grid0.coords t) := by rw [hcond0_1]; omega
  have c2 : ¬cond0_2 (grid0.coords t) := by rw [hcond0_2]; omega
  have c3 : cond0_3 (grid0.coords t) := by rw [hcond0_3]; omega
  have eM : min (t.val + 1) 5 = min t.val 5 := by omega
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [live5 t (by omega)], after0_5]
  rw [show (dats m 0 c).leavesExact 6 t = owns (c : Thread nD τ) (ms0_6 t) fullShare ((dats m 0 c).after 6 t) from by
    unfold Dat.leavesExact; rw [idle6 t (by omega), doFlush6 t (by omega)], after0_6]
  simp only [before0_6_last m c t (by omega)]
  rw [show (dats m 0 c).leavesExact 7 t = owns (c : Thread nD τ) (ms0_7 t) fullShare ((dats m 0 c).after 7 t) from by
    unfold Dat.leavesExact; rw [idle7 t (by omega), doFlush7 t (by omega)], after0_7]
  simp only [before0_7_last m c t (by omega)]
  rw [PhiS_castSucc m c t, PhiS_pos m c _ _ (by omega)]
  unfold PhiP
  iintro ⟨⟨⟨⟨%e0, %hk, HS0⟩, HS1, HS2, ⟨%e3, %hb, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_D c (grid0.coords t) _ _ _ _ _ _ _ _ _ _ _ _ _ _ _ _ _ _ _ _ _ _ _ _ c0 c1 c2 c3 _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  iintro ⟨H0, H1, H2, H3, H4, H5, H6, H7, HS0, HS1, HS2, HS3⟩
  rw [eM, Kept_get m c t _ (by omega) c3 _ hk, hb (by omega)]
  isplitl [HS0 HS1 HS2 HS3 Hg]
  · isplitl [HS0 HS1 HS2 HS3]
    · isplitl [HS0]
      · iexists _; isplitr; swap; · iexact HS0
        ipureintro; exact Kept_all m c _ _ (by omega) _ hk
      isplitl [HS1]; · iexact HS1
      isplitl [HS2]; · iexact HS2
      iexists _; isplitr; swap; · iexact HS3
      ipureintro; intro _; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_A m c t h0
  by_cases h1 : t.val < 5
  · exact sound_B m c t h0 h1
  by_cases h2 : t.val = 5
  · exact sound_C m c t h2
  by_cases h3 : t.val = 9
  · exact sound_E m c t h3
  · exact sound_D m c t (by omega) h3

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 10 := N_0; omega
  rw [show (dats m 0 c).Φ (Fin.last cfg0.N) = PhiS m c (Fin.last cfg0.N).val (Nat.le_of_lt_succ (Fin.last cfg0.N).isLt) from rfl, PhiS_pos m c _ _ ht, PhiA0_eq]
  unfold PhiP
  iintro ⟨⟨⟨%e0, %hk, HS0⟩, HS1, HS2, ⟨%e3, %hb, HS3⟩⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

/-! ## The launch -/

set_option backward.isDefEq.respectTransparency.types false in
set_option maxHeartbeats 800000 in
/-- The launch, and every semaphore counter at zero at the end. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged and the counters at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Proof.KernelIdeal
-- ==== Proof.KI.Pure.lean ====
/- The body's payloads over the extended reals, read at an index. -/
module

public import proofs.«01_k».proof.Proof.Gen.KernelIdeal.Skeleton
public import proofs.«01_k».proof.Proof.KI.RunB
public import proofs.«01_k».proof.Proof.KI.Spec
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.SL.Sem

/-- One projection of the body is the specification's. -/
theorem pay12_eq (x : Mat) : k0_pay12 (F := Ideal) x = projS x := by
  funext j
  idx_vars j
  pointwise [k0_pay12, projS]
  rfl

theorem pay11_eq (sim x : Mat) : k0_pay11 (F := Ideal) sim k0_pay21 x = gradS sim x := by
  funext j
  idx_vars j
  pointwise [k0_pay11, k0_pay21, gradS]
  rw [zero_sub]

theorem iter12_eq (x : Mat) (n : ℕ) : (k0_pay12 (F := Ideal))^[n] x = projS^[n] x := by
  rw [show (k0_pay12 (F := Ideal)) = projS from funext pay12_eq]

/-- The solver's loop after `n` trips: the iterate and the sum of the iterates. -/
theorem trip_iter (sim : Mat) : ∀ n : ℕ, (trip (F := Ideal) sim k0_pay21)^[n] (k0_pay9, k0_pay10) = (xS sim n, sumS sim n)
  | 0 => by
    refine Prod.ext (funext fun j => ?_) (funext fun j => ?_)
    · idx_vars j
      show k0_pay9 (F := Ideal) (ix2 j0 j1) = _
      pointwise [k0_pay9]
      rfl
    · idx_vars j
      show k0_pay10 (F := Ideal) (ix2 j0 j1) = _
      pointwise [k0_pay10, sumS]
      rfl
  | n + 1 => by
    rw [Function.iterate_succ_apply', trip_iter sim n]
    have hx : (k0_pay12 (F := Ideal))^[5] (k0_pay11 sim k0_pay21 (xS sim n)) = xS sim (n + 1) := by
      rw [pay11_eq, iter12_eq]; rfl
    unfold trip
    refine Prod.ext hx ?_
    dsimp only
    rw [hx]
    funext j
    show (sumS sim n j + xS sim (n + 1) j : EReal) = sumS sim (n + 1) j
    unfold sumS
    rw [Finset.sum_range_succ]

theorem iterSum_eq (sim : Mat) : iterSum (F := Ideal) sim = sumS sim 20 := by
  unfold iterSum
  rw [trip_iter]

/-- A one-bit word's integer is one or zero. -/
theorem bit_val (b : Bool) : (((BitVec.setWidth 32 (BitVec.ofBool b)).toInt : ℝ) : EReal) = if b then 1 else 0 := by
  cases b <;> simp

theorem ite_any (c : Prop) {d d' : Decidable c} (a b : EReal) : @ite EReal c d a b = @ite EReal c d' a b := by
  rw [Subsingleton.elim d d']

theorem pay15_eq (sim : Mat) : k0_pay15 (F := Ideal) (sumS sim 20) = binS sim := by
  funext j
  idx_vars j
  pointwise [k0_pay15, k0_pay14, binS, ridxS]
  refine Ideal.mul_congr rfl ?_
  refine (bit_val _).trans ?_
  simp only [decide_eq_true_eq]
  exact ite_any _ _ _

theorem pay16_eq (sim : Mat) : k0_pay16 (F := Ideal) (sumS sim 20) = binS sim := by
  refine Eq.trans ?_ (pay15_eq sim)
  funext j
  idx_vars j
  pointwise [k0_pay16]

theorem pay17_at (sim : Mat) (o : Fin 24) (u : Fin 1) : k0_pay17 (F := Ideal) sim (sumS sim 20) (ix2 o u) = msS sim o := by
  pointwise [k0_pay17, k0_pay14]
  rfl

theorem pay18_at (sim : Mat) (ps : Vec Ideal S1x256 .f32) (o : Fin 24) (u : Fin 1) :
    k0_pay18 (F := Ideal) (sumS sim 20) ps (ix2 o u) = dsS sim (fun p => ps (ix2 0 p)) o := by
  pointwise [k0_pay18, dsS]
  rw [pay15_eq]

/-- The selected mask: the high half carries all of it. -/
theorem pay19_at (sim : Mat) (y : Vec Ideal S1x256x20736 .i8) (o : Fin 24) (p : Fin 48) (q : Fin 432) :
    k0_pay19 (F := Ideal) (binS sim) y (ix3 o p q)
      = outS sim (fun x => (((y (ix3 0 x ⟨p.val * 432 + q.val, by omega⟩)).toInt : ℝ) : EReal)) o := by
  pointwise [k0_pay19]
  simp only [binS_sub_self, zero_mul, Finset.sum_const_zero, add_zero]
  rfl

theorem pay20_eq (v16 : Mat) (v17 : FVec Ideal S1x256 .f32) (v18 : FVec Ideal S24x1 .f32) (kf : FVec Ideal S256x256 .f32) (tf : FVec Ideal S2x24x256 .f32) :
    k0_pay20 (F := Ideal) v16 v17 v18 kf tf
      = simS kf tf (fun o p => v16 (ix2 o p)) (fun o => v18 (ix2 o 0)) (fun p => v17 (ix2 0 p)) := by
  funext j
  idx_vars j
  pointwise [k0_pay20, simS, featS]
  rfl

theorem pay5_at (a : FVec Ideal S24x48x432 .f32) (b : Vec Ideal S256x20736 .i8) (v : FVec Ideal S32x256 .f32) (o : Fin 32) (p : Fin 256) :
    k0_pay5 (F := Ideal) a b v (ix2 o p) = v (ix2 o p) + ∑ x : Fin 20736,
      (if h : o.val < 24 then a (ix3 (⟨o.val, h⟩ : Fin 24) (⟨x.val / 432, by omega⟩ : Fin 48) (⟨x.val % 432, by omega⟩ : Fin 432)) else (1 : EReal))
        * (((b (ix2 p x)).toInt : ℝ) : EReal) := by
  pointwise [k0_pay5, k0_pay3, k0_pay4]
  rfl

theorem pay6_at (a : FVec Ideal S24x48x432 .f32) (v : FVec Ideal S24x1 .f32) (o : Fin 24) (u : Fin 1) :
    k0_pay6 (F := Ideal) a v (ix2 o u) = v (ix2 o u) + ∑ x : Fin 20736,
      a (ix3 o (⟨x.val / 432, by omega⟩ : Fin 48) (⟨x.val % 432, by omega⟩ : Fin 432)) := by
  pointwise [k0_pay6, k0_pay3]

theorem pay1_at (j : S32x256.Idx) : k0_pay1 (F := Ideal) j = (0 : EReal) := by
  idx_vars j
  pointwise [k0_pay1]

theorem pay2_at (j : S24x1.Idx) : k0_pay2 (F := Ideal) j = (0 : EReal) := by
  idx_vars j
  pointwise [k0_pay2]

theorem topRows_at (x : FVec Ideal S32x256 .f32) (o : Fin 24) (p : Fin 256) :
    topRows (F := Ideal) x (ix2 o p) = x (ix2 (⟨o.val, by omega⟩ : Fin 32) p) := by
  unfold topRows VecWindow.window
  refine congrArg x ?_
  idx_ext

theorem sumRow_at (x : FVec Ideal S32x256 .f32) (u : Fin 1) (p : Fin 256) :
    sumRow (F := Ideal) x (ix2 u p) = x (ix2 (24 : Fin 32) p) := by
  unfold sumRow VecWindow.window
  refine congrArg x ?_
  idx_ext

end Cert.Proof.KernelIdeal

end
-- ==== Proof.KI.Blocks.lean ====
/- The blocks the body reads, as elements of the argument arrays. -/
module

public import proofs.«01_k».proof.Proof.KI.Frame
public import proofs.«01_k».proof.Proof.KI.Pure
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic Idealize.SL.Sem

variable (m : (ℓ : Loc nD τ sig) → Buf (Elt Ideal) ℓ)

theorem idx : ∀ t : Fin cfg0.N, win0_0.index t = ![0, if t.val < 5 then t.val else 0, 0] ∧ win0_1.index t = ![0, if t.val < 5 then t.val else 0]
    ∧ win0_2.index t = ![0, 0] ∧ win0_3.index t = ![0, 0, 0] ∧ win0_4.index t = ![0, 0]
    ∧ win0_5.index t = ![0, if t.val < 5 then 0 else t.val - 5, 0] ∧ win0_6.index t = ![0, 0] ∧ win0_7.index t = ![0, 0] :=
  (by decide +kernel : ∀ t : Fin grid0.N, _)

/-- The argument arrays of a core. -/
abbrev kfA (c : Dev nD) : FVec Ideal S256x256 .f32 := m ((c : Thread nD τ).loc main_arg0)
abbrev maskA (c : Dev nD) : FVec Ideal S256x240x432 .f32 := m ((c : Thread nD τ).loc main_arg1)
abbrev tfA (c : Dev nD) : FVec Ideal S2x24x256 .f32 := m ((c : Thread nD τ).loc main_arg2)
abbrev tmA (c : Dev nD) : FVec Ideal S24x240x432 .f32 := m ((c : Thread nD τ).loc main_arg3)
abbrev psA (c : Dev nD) : FVec Ideal S256 .f32 := m ((c : Thread nD τ).loc main_arg4)

theorem iblk0 (c : Dev nD) (t : Fin cfg0.N) (ht : t.val < 5) (o : Fin 24) (h : Fin 48) (w : Fin 432) :
    iblk m c 0 t (ix3 o h w) = tmA m c (ix3 o (⟨t.val * 48 + h.val, by omega⟩ : Fin 240) w) := by
  have e := idx t
  rw [if_pos ht] at e
  blk_ext [iblk, V, e]

/-- A mask value as the host casts it. -/
def bit8 (x : EReal) : BitVec 8 := BitVec.setWidth 8 (Ideal.fptosi 32 x)

theorem bit8_int (x : EReal) (h : x = 0 ∨ x = 1) : ((((bit8 x).toInt : ℝ)) : EReal) = x := by
  rcases h with rfl | rfl
  · have : bit8 0 = 0#8 := by
      unfold bit8 Ideal.fptosi
      rw [show (0 : EReal) = ((0 : ℝ) : EReal) from rfl, Ideal.toIntClamped_coe]
      simp
    rw [this]; simp
  · have : bit8 1 = 1#8 := by
      unfold bit8 Ideal.fptosi
      rw [show (1 : EReal) = ((1 : ℝ) : EReal) from rfl, Ideal.toIntClamped_coe]
      simp
    rw [this]; simp

/-- The operand the host prepares from the masks. -/
theorem V_v3 (c : Dev nD) (p : Fin 256) (k : Fin 103680) :
    V m c main_v3 (ix2 p k) = bit8 (maskA m c (ix3 p (⟨k.val / 432, by omega⟩ : Fin 240) (⟨k.val % 432, by omega⟩ : Fin 432))) := by
  unfold V V0
  rw [List.flatten_cons, List.flatten_nil, List.append_nil]
  after_reads_simp
  pointwise [bit8]
  rfl

theorem iblk1 (c : Dev nD) (t : Fin cfg0.N) (ht : t.val < 5) (p : Fin 256) (x : Fin 20736) :
    iblk m c 1 t (ix2 p x) = bit8 (maskA m c (ix3 p (⟨(t.val * 20736 + x.val) / 432, by omega⟩ : Fin 240) (⟨(t.val * 20736 + x.val) % 432, by omega⟩ : Fin 432))) := by
  have e := idx t
  rw [if_pos ht] at e
  refine Eq.trans ?_ (V_v3 m c p (⟨t.val * 20736 + x.val, by omega⟩ : Fin 103680))
  blk_ext [iblk, e]

theorem iblk2 (c : Dev nD) (t : Fin cfg0.N) : iblk m c 2 t = kfA m c := by
  funext j
  blk_ext [iblk, V, idx t]

theorem iblk3 (c : Dev nD) (t : Fin cfg0.N) : iblk m c 3 t = tfA m c := by
  funext j
  blk_ext [iblk, V, idx t]

/-- The operand the host prepares from the scores. -/
theorem V_v4 (c : Dev nD) (p : Fin 256) : V m c main_v4 (ix2 0 p) = psA m c (ix1 p) := by
  unfold V V0
  rw [List.flatten_cons, List.flatten_nil, List.append_nil]
  after_reads_simp
  pointwise

theorem iblk4 (c : Dev nD) (t : Fin cfg0.N) (p : Fin 256) : iblk m c 4 t (ix2 0 p) = psA m c (ix1 p) := by
  refine Eq.trans ?_ (V_v4 m c p)
  blk_ext [iblk, idx t]

end Cert.Proof.KernelIdeal

end
-- ==== Proof.KI.Value.lean ====
/- What the second phase starts from, and the result arrays after the run. -/
module

public import proofs.«01_k».proof.Proof.KI.Blocks

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic Idealize.SL.Sem

variable (m : (ℓ : Loc nD τ sig) → Buf (Elt Ideal) ℓ)

/-- Five equal tiles accumulated one after the other are the sum over the whole line. -/
theorem acc5 (g : ℕ → EReal) (f : Fin (5 * 20736) → EReal) (h0 : g 0 = 0)
    (hs : ∀ (n : ℕ) (h : n < 5), g (n + 1) = g n + ∑ x : Fin 20736, f ⟨n * 20736 + x.val, by omega⟩) :
    g 5 = ∑ k : Fin (5 * 20736), f k := by
  rw [Fin.sum_univ_tiles 5 20736 rfl f, Fin.sum_univ_five, hs 4 (by omega), hs 3 (by omega), hs 2 (by omega), hs 1 (by omega), hs 0 (by omega), h0, zero_add]
  rfl

/-- Every mask value is zero or one. -/
def Binary (c : Dev nD) : Prop := ∀ i : S256x240x432.Idx, maskA m c i = 0 ∨ maskA m c i = 1

theorem pt_lt (n : ℕ) (h : n < 5) : (pt n).val = n := Nat.mod_eq_of_lt (by omega)

theorem blk0_at (c : Dev nD) (n : ℕ) (hn : n < 5) (o : Fin 24) (x : Fin 20736) :
    iblk m c 0 (pt n) (ix3 o (⟨x.val / 432, by omega⟩ : Fin 48) (⟨x.val % 432, by omega⟩ : Fin 432))
      = tmA m c (ix3 o (⟨(n * 20736 + x.val) / 432, by omega⟩ : Fin 240) (⟨(n * 20736 + x.val) % 432, by omega⟩ : Fin 432)) := by
  refine (iblk0 m c (pt n) (by rw [pt_lt n hn]; exact hn) o _ _).trans ?_
  have ha : (pt n).val * 48 + x.val / 432 = (n * 20736 + x.val) / 432 := by rw [pt_lt n hn]; omega
  have hb : x.val % 432 = (n * 20736 + x.val) % 432 := by omega
  exact congrArg₂ (fun a b => tmA m c (ix3 o a b)) (Fin.ext ha) (Fin.ext hb)

theorem blk1_at (c : Dev nD) (hb : Binary m c) (n : ℕ) (hn : n < 5) (p : Fin 256) (x : Fin 20736) :
    ((((iblk m c 1 (pt n) (ix2 p x) : BitVec 8).toInt : ℝ)) : EReal)
      = maskA m c (ix3 p (⟨(n * 20736 + x.val) / 432, by omega⟩ : Fin 240) (⟨(n * 20736 + x.val) % 432, by omega⟩ : Fin 432)) := by
  rw [iblk1 m c (pt n) (by rw [pt_lt n hn]; exact hn) p x, bit8_int _ (hb _)]
  have ha : ((pt n).val * 20736 + x.val) / 432 = (n * 20736 + x.val) / 432 := by rw [pt_lt n hn]
  have hc : ((pt n).val * 20736 + x.val) % 432 = (n * 20736 + x.val) % 432 := by rw [pt_lt n hn]
  exact congrArg₂ (fun a b => maskA m c (ix3 p a b)) (Fin.ext ha) (Fin.ext hc)

theorem inter_top (c : Dev nD) (hb : Binary m c) (o : Fin 24) (p : Fin 256) :
    interAt m c 5 (ix2 (⟨o.val, by omega⟩ : Fin 32) p) = interS (tmA m c) (maskA m c) o p := by
  refine acc5 (fun n => interAt m c n (ix2 (⟨o.val, by omega⟩ : Fin 32) p))
    (fun k : Fin 103680 => tmA m c (ix3 o (⟨k.val / 432, by omega⟩ : Fin 240) (⟨k.val % 432, by omega⟩ : Fin 432))
      * maskA m c (ix3 p (⟨k.val / 432, by omega⟩ : Fin 240) (⟨k.val % 432, by omega⟩ : Fin 432))) (pay1_at _) fun n hn => ?_
  refine (pay5_at _ _ _ _ p).trans (congrArg _ (Finset.sum_congr rfl fun x _ => ?_))
  rw [dif_pos o.isLt]
  exact Ideal.mul_congr (blk0_at m c n hn o x) (blk1_at m c hb n hn p x)

theorem inter_sum (c : Dev nD) (hb : Binary m c) (p : Fin 256) :
    interAt m c 5 (ix2 (24 : Fin 32) p) = bsumS (maskA m c) p := by
  refine acc5 (fun n => interAt m c n (ix2 (24 : Fin 32) p))
    (fun k : Fin 103680 => maskA m c (ix3 p (⟨k.val / 432, by omega⟩ : Fin 240) (⟨k.val % 432, by omega⟩ : Fin 432))) (pay1_at _) fun n hn => ?_
  refine (pay5_at _ _ _ _ p).trans (congrArg _ (Finset.sum_congr rfl fun x _ => ?_))
  rw [dif_neg (by decide), one_mul]
  exact blk1_at m c hb n hn p x

theorem asum_at (c : Dev nD) (o : Fin 24) : asumAt m c 5 (ix2 o 0) = asumS (tmA m c) o := by
  refine acc5 (fun n => asumAt m c n (ix2 o 0))
    (fun k : Fin 103680 => tmA m c (ix3 o (⟨k.val / 432, by omega⟩ : Fin 240) (⟨k.val % 432, by omega⟩ : Fin 432))) (pay2_at _) fun n hn => ?_
  exact (pay6_at _ _ o 0).trans (congrArg _ (Finset.sum_congr rfl fun x _ => blk0_at m c n hn o x))

/-- The similarity matrix of a core's argument arrays. -/
abbrev simC (c : Dev nD) : Mat := simArr (kfA m c) (maskA m c) (tfA m c) (tmA m c)

theorem simS_congr (kf : FVec Ideal S256x256 .f32) (tf : FVec Ideal S2x24x256 .f32) {i i' : Fin 24 → Fin 256 → EReal}
    {a a' : Fin 24 → EReal} {b b' : Fin 256 → EReal} (hi : i = i') (ha : a = a') (hb : b = b') :
    simS kf tf i a b = simS kf tf i' a' b' := by
  rw [hi, ha, hb]

theorem simM_eq (c : Dev nD) (hb : Binary m c) : simM m c = simC m c := by
  unfold simM simOf
  rw [iblk2, iblk3, pay20_eq]
  unfold simC simArr
  exact simS_congr _ _ (funext fun o => funext fun p => (topRows_at _ o p).trans (inter_top m c hb o p))
    (funext fun o => asum_at m c o) (funext fun p => (sumRow_at _ 0 p).trans (inter_sum m c hb p))

theorem binM_eq (c : Dev nD) (hb : Binary m c) : binM m c = binS (simC m c) := by
  unfold binM
  rw [simM_eq m c hb, iterSum_eq, pay16_eq]

theorem msM_at (c : Dev nD) (hb : Binary m c) (o : Fin 24) (u : Fin 1) : msM m c (ix2 o u) = msS (simC m c) o := by
  unfold msM
  rw [simM_eq m c hb, iterSum_eq, pay17_at]

theorem dsM_at (c : Dev nD) (hb : Binary m c) (o : Fin 24) (u : Fin 1) :
    dsM m c (ix2 o u) = dsS (simC m c) (fun p => psA m c (ix1 p)) o := by
  unfold dsM
  rw [simM_eq m c hb, iterSum_eq, pay18_at]
  exact congrArg (fun f => dsS (simC m c) f o) (funext fun p => iblk4 m c _ p)

theorem outM_at (c : Dev nD) (hb : Binary m c) (n : ℕ) (hn : n < 5) (o : Fin 24) (h : Fin 48) (w : Fin 432) :
    outM m c n (ix3 o h w) = outS (simC m c) (fun p => maskA m c (ix3 p (⟨n * 48 + h.val, by omega⟩ : Fin 240) w)) o := by
  unfold outM
  rw [binM_eq m c hb]
  refine (pay19_at _ _ o h w).trans (congrArg (fun f => outS (simC m c) f o) (funext fun p => ?_))
  refine (blk1_at m c hb n hn p _).trans ?_
  have ha : (n * 20736 + (h.val * 432 + w.val)) / 432 = n * 48 + h.val := by omega
  have hc : (n * 20736 + (h.val * 432 + w.val)) % 432 = w.val := by omega
  exact congrArg₂ (fun a b => maskA m c (ix3 p a b)) (Fin.ext ha) (Fin.ext hc)

end Cert.Proof.KernelIdeal

end
-- ==== Proof.KI.Result.lean ====
/- The result arrays after the run, as functions of the argument arrays. -/
module

public import proofs.«01_k».proof.Proof.KI.Value

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ) (ρ : Dev nD → PrngReg)

/-- The three results. -/
def res0 (c : Dev nD) : FVec Ideal S24x240x432 .f32 := fun i =>
  outS (simC m c) (fun p => maskA m c (ix3 p (i 1) (i 2))) (i 0)

def res1 (c : Dev nD) : FVec Ideal S24 .f32 := fun i => msS (simC m c) (i 0)

def res2 (c : Dev nD) : FVec Ideal S24 .f32 := fun i => dsS (simC m c) (fun p => psA m c (ix1 p)) (i 0)

theorem flush5 : ∀ t : Fin cfg0.N, (cfg0.win 5).flush t = true → 5 ≤ t.val :=
  (by decide +kernel : ∀ t : Fin grid0.N, (cfg0.win 5).flush t = true → 5 ≤ t.val)

theorem final5 (c : Dev nD) (hb : Binary m c) : (dats m 0 c).arrAt 5 cfg0.N = res0 m c := by
  refine Dat.arrAt_eq_of_covers (dats m 0 c) 5 (res0 m c) (by decide +kernel) fun t hf y => ?_
  have h5 := flush5 t hf
  have h10 : t.val < 10 := lt_of_lt_of_eq t.isLt N_0
  have e := idx t
  simp only [if_neg (by omega : ¬ t.val < 5)] at e
  blk_simp
  rw [after0_5]
  idx_vars y
  have hm : t.val % 5 = t.val - 5 := by omega
  refine (outM_at m c hb _ (by omega) y0 y1 y2).trans ?_
  refine Eq.trans (b := res0 m c (ix3 y0 (⟨t.val % 5 * 48 + y1.val, by omega⟩ : Fin 240) y2)) rfl ?_
  rw [show (⟨t.val % 5 * 48 + y1.val, by omega⟩ : Fin 240) = ⟨(t.val - 5) * 48 + y1.val, by omega⟩ from Fin.ext (by change t.val % 5 * 48 + y1.val = (t.val - 5) * 48 + y1.val; rw [hm])]
  blk_ext [e]

theorem final6 (c : Dev nD) (hb : Binary m c) (o : Fin 24) (u : Fin 1) : (dats m 0 c).arrAt 6 cfg0.N (ix2 o u) = msS (simC m c) o := by
  have : (dats m 0 c).arrAt 6 cfg0.N = msM m c := by
    refine Dat.arrAt_eq_of_after_last (dats m 0 c) 6 (pt 9) (by decide +kernel) _ fun j => ?_
    blk_simp
    rw [after0_6]
  exact (congrFun this _).trans (msM_at m c hb o u)

theorem final7 (c : Dev nD) (hb : Binary m c) (o : Fin 24) (u : Fin 1) : (dats m 0 c).arrAt 7 cfg0.N (ix2 o u) = dsS (simC m c) (fun p => psA m c (ix1 p)) o := by
  have : (dats m 0 c).arrAt 7 cfg0.N = dsM m c := by
    refine Dat.arrAt_eq_of_after_last (dats m 0 c) 7 (pt 9) (by decide +kernel) _ fun j => ?_
    blk_simp
    rw [after0_7]
  exact (congrFun this _).trans (dsM_at m c hb o u)

theorem arr_inj : Function.Injective (Pipeline.arrRef spec0) := by
  intro a b h
  exact (by decide : ∀ a b, Pipeline.arrRef spec0 a = Pipeline.arrRef spec0 b → a = b) a b h

theorem W_v6 (c : Dev nD) (hb : Binary m c) : Pipeline.afterTail₀ cfgs (dats m) 0 (V0 m) [hostOps1] c main_v6 = res1 m c := by
  unfold Pipeline.afterTail₀
  rw [List.flatten_cons, List.flatten_nil, List.append_nil]
  after_reads_simp
  funext i
  idx_vars i
  pointwise
  exact (congrFun (Pipeline.withArrays_arr spec0 arr_inj c (V0 m c) (fun w => (dats m 0 c).arrAt w cfg0.N) 6) _).trans
    (final6 m c hb i0 0)

theorem W_v7 (c : Dev nD) (hb : Binary m c) : Pipeline.afterTail₀ cfgs (dats m) 0 (V0 m) [hostOps1] c main_v7 = res2 m c := by
  unfold Pipeline.afterTail₀
  rw [List.flatten_cons, List.flatten_nil, List.append_nil]
  after_reads_simp
  funext i
  idx_vars i
  pointwise
  exact (congrFun (Pipeline.withArrays_arr spec0 arr_inj c (V0 m c) (fun w => (dats m 0 c).arrAt w cfg0.N) 7) _).trans
    (final7 m c hb i0 0)

/-- The run: the three results, and the arguments unchanged. -/
theorem value_main (hb : ∀ c, Binary m c) : θ_run defs (onTc (τ := τ) (main (F := Ideal))) ⟨m, fun _ => 0, ρ⟩ (fun r => ∀ c : Dev nD,
      r.2.mem ((c.tc : Thread nD τ).loc main_v5_0) = res0 m c
      ∧ r.2.mem ((c.tc : Thread nD τ).loc main_v6) = res1 m c
      ∧ r.2.mem ((c.tc : Thread nD τ).loc main_v7) = res2 m c) :=
  (θ_run defs _ _).mono (fun _ h c =>
    ⟨((h c).1 5).trans (final5 m c (hb c)),
     ((h c).2 main_v6 (Pipeline.mem_restRefs_of main_v6 (by decide) (by decide))).trans (W_v6 m c (hb c)),
     ((h c).2 main_v7 (Pipeline.mem_restRefs_of main_v7 (by decide) (by decide))).trans (W_v7 m c (hb c))⟩) (run_main m ρ)

end Cert.Proof.KernelIdeal

end
-- ==== Proof.KI.Pre.lean ====
/- The precondition: what it says of the masks. -/
module

public import proofs.«01_k».proof.Pre_binary_mask
public import Idealize.ShloMosaic.Lib.Pointwise
public import Idealize.ShloMosaic.Lib.ReduceAll

@[expose] public section

noncomputable section

namespace Cert.Proof.Pre

open Idealize.ShloMosaic Cert.Pre_binary_mask

/-- The side conditions of the precondition's operations. -/
theorem facts : Cert.Pre_binary_mask.Facts where
  bcast_S_S256x240x432 := by decide
  reducesTo_S256x240x432_S_d0_1_2 := by decide
  h_S_ := by decide

theorem or_bits (p q : Bool) (h : IntOp.ori (BitVec.ofBool p) (BitVec.ofBool q) = 1#1) : p = true ∨ q = true := by
  revert h
  cases p <;> cases q <;> decide

/-- Where the precondition holds every mask value is zero or one. -/
theorem binary (hf : Cert.Pre_binary_mask.Facts) (a0 : FVec Ideal S256x256 .f32) (a1 : FVec Ideal S256x240x432 .f32) (a2 : FVec Ideal S2x24x256 .f32)
    (a3 : FVec Ideal S24x240x432 .f32) (a4 : FVec Ideal S256 .f32) (h : fn (F := Ideal) a0 a1 a2 a3 a4 = fun _ => 1#1)
    (i : S256x240x432.Idx) : a1 i = 0 ∨ a1 i = 1 := by
  have : Subsingleton S_.Idx := ⟨fun a b => funext fun k => k.elim0⟩
  have hi := Host.reduce_andi_all _ _ _ _ _ (congrFun h (fun k => k.elim0)) i
  idx_vars i
  pointwise at hi
  rcases or_bits _ _ hi with e | e
  · exact .inl (of_decide_eq_true e)
  · exact .inr (of_decide_eq_true e)

end Cert.Proof.Pre

end
-- ==== Proof.lean ====
/- The claim, put together from the modules under Proof/. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.RI.Keep
public import proofs.«01_k».proof.Proof.RI.Post
public import proofs.«01_k».proof.Proof.K.Frame
public import proofs.«01_k».proof.Proof.KI.Frame
public import proofs.«01_k».proof.Proof.KI.Result
public import proofs.«01_k».proof.Proof.KI.Pre
public import Idealize.ShloMosaic.Lib.Quiescent
public import Idealize.ShloMosaic.Lib.Claim

@[expose] public section

noncomputable section

namespace Cert.Proof

open Idealize.ShloMosaic Idealize.ShloMosaic.TcCoe Idealize.SL.Sem

/-- The similarity is the same for the same arrays. -/
theorem sim_congr {kf kf' : FVec Ideal Cert.KernelIdeal.S256x256 .f32} {mk mk' : FVec Ideal Cert.KernelIdeal.S256x240x432 .f32}
    {tf tf' : FVec Ideal Cert.KernelIdeal.S2x24x256 .f32} {tm tm' : FVec Ideal Cert.KernelIdeal.S24x240x432 .f32}
    (h0 : kf = kf') (h1 : mk = mk') (h2 : tf = tf') (h3 : tm = tm') :
    KernelIdeal.simArr kf mk tf tm = KernelIdeal.simArr kf' mk' tf' tm' := by
  subst h0 h1 h2 h3; rfl

/-- The kernel and the reference leave the same three results. -/
theorem algebraic : @Cert.algebraic_KernelIdeal_ReferenceIdeal_pre_binary_mask Cert.KernelIdeal.Gen.facts Cert.ReferenceIdeal.Gen.facts Cert.Proof.Pre.facts := by
  intro m g m' g' hpre hargs
  have hb : ∀ c, KernelIdeal.Binary m c := fun c i => Pre.binary Pre.facts _ _ _ _ _ (hpre c) i
  refine ⟨fun c => KernelIdeal.res0 m c, fun c => KernelIdeal.res1 m c, fun c => KernelIdeal.res2 m c, ?_, ?_⟩
  · refine (θ_run Cert.KernelIdeal.defs _ _).mono (fun r h c => ?_) (θ_run_and (KernelIdeal.value_main m g hb) (KernelIdeal.frame_main m g))
    obtain ⟨v, f⟩ := h
    obtain ⟨v0, v1, v2⟩ := v c
    exact ⟨v0, v1, v2, f.1 c⟩
  · refine (θ_run Cert.ReferenceIdeal.defs _ _).mono (fun r h c => ?_) (θ_run_and (Reference.value_main m' g') (Reference.frame_main m' g'))
    obtain ⟨v, f⟩ := h
    obtain ⟨v0, v1, v2⟩ := v c
    obtain ⟨a0, a1, a2, a3, a4⟩ := hargs c
    have hs : Reference.simR m' c = KernelIdeal.simC m c :=
      sim_congr a0 a1 a2 a3
    exact ⟨v0.trans (congrArg₂ (fun (s : KernelIdeal.Mat) (mk : FVec Ideal Cert.KernelIdeal.S256x240x432 .f32) =>
        (fun i => KernelIdeal.outS s (fun p => mk (ix3 p (i 1) (i 2))) (i 0) : FVec Ideal Cert.KernelIdeal.S24x240x432 .f32)) hs a1),
      v1.trans (congrArg (fun s : KernelIdeal.Mat => (fun i => KernelIdeal.msS s (i 0) : FVec Ideal Cert.KernelIdeal.S24 .f32)) hs),
      v2.trans (congrArg₂ (fun (s : KernelIdeal.Mat) (ps : FVec Ideal Cert.KernelIdeal.S256 .f32) =>
        (fun i => KernelIdeal.dsS s (fun p => ps (ix1 p)) (i 0) : FVec Ideal Cert.KernelIdeal.S24 .f32)) hs a4), f.1 c⟩

theorem claim : Cert.Claim := ⟨Cert.Kernel.Gen.facts, Cert.KernelIdeal.Gen.facts, Cert.ReferenceIdeal.Gen.facts, Cert.Proof.Pre.facts,
  fun m ρ _ => Cert.Proof.Kernel.frame_main m ρ,
  fun m ρ _ => Cert.Proof.KernelIdeal.frame_main m ρ,
  fun m ρ _ => Cert.Proof.KernelIdeal.frame_main m ρ,
  fun m ρ _ => Cert.Proof.Reference.frame_main m ρ,
  fun m ρ _ => Cert.Proof.Reference.frame_main m ρ, trivial, algebraic⟩

end Cert.Proof

end
